-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_direction [hPre_rows_have_a_direction : Cert.Pre_rows_have_a_direction.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_direction.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_direction [hPre_rows_have_a_direction : Cert.Pre_rows_have_a_direction.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_direction.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_rows_have_a_direction [hKernelIdeal : Cert.KernelIdeal.Facts] [hPre_rows_have_a_direction : Cert.Pre_rows_have_a_direction.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_direction m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rows_have_a_direction [hReferenceIdeal : Cert.ReferenceIdeal.Facts] [hPre_rows_have_a_direction : Cert.Pre_rows_have_a_direction.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_direction m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_rows_have_a_direction [hKernelIdeal : Cert.KernelIdeal.Facts] [hReferenceIdeal : Cert.ReferenceIdeal.Facts] [hPre_rows_have_a_direction : Cert.Pre_rows_have_a_direction.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_direction m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_rows_have_a_direction : Cert.Pre_rows_have_a_direction.Facts),
    quiescent_Kernel (hKernel := hKernel)
    ∧ quiescent_KernelIdeal (hKernelIdeal := hKernelIdeal)
    ∧ quiescent_KernelIdeal_pre_rows_have_a_direction (hKernelIdeal := hKernelIdeal) (hPre_rows_have_a_direction := hPre_rows_have_a_direction)
    ∧ quiescent_ReferenceIdeal (hReferenceIdeal := hReferenceIdeal)
    ∧ quiescent_ReferenceIdeal_pre_rows_have_a_direction (hReferenceIdeal := hReferenceIdeal) (hPre_rows_have_a_direction := hPre_rows_have_a_direction)
    ∧ preserves_Kernel_KernelIdeal
    ∧ algebraic_KernelIdeal_ReferenceIdeal_pre_rows_have_a_direction (hKernelIdeal := hKernelIdeal) (hReferenceIdeal := hReferenceIdeal) (hPre_rows_have_a_direction := hPre_rows_have_a_direction)
-- ==== Pre_rows_have_a_direction.lean ====
abbrev S4096 : Shape := ⟨1, ![4096]⟩
abbrev S524288 : Shape := ⟨1, ![524288]⟩
abbrev S128x4096 : Shape := ⟨2, ![128, 4096]⟩
abbrev S4096x4096 : Shape := ⟨2, ![4096, 4096]⟩
abbrev S1 : Shape := ⟨1, ![1]⟩
abbrev S128 : Shape := ⟨1, ![128]⟩
abbrev S_ : Shape := ⟨0, ![]⟩
abbrev S1x4096 : Shape := ⟨2, ![1, 4096]⟩
abbrev S1x1 : Shape := ⟨2, ![1, 1]⟩
abbrev S128x1 : Shape := ⟨2, ![128, 1]⟩

class Facts : Prop where
  shapeCasts_S524288_S128x4096 : S524288.ShapeCasts S128x4096
  bcast_S_S128 : S_.BroadcastsInDim S128 (![] : Fin 0 → Fin S128.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  bcast_S_S128x4096 : S_.BroadcastsInDim S128x4096 (![] : Fin 0 → Fin S128x4096.rank)
  bcast_S1_S1x1_1 : S1.BroadcastsInDim S1x1 (![1] : Fin 1 → Fin S1x1.rank)
  bcast_S1x1_S128x4096_0_1 : S1x1.BroadcastsInDim S128x4096 (![0, 1] : Fin 2 → Fin S128x4096.rank)
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  bcast_S_S4096 : S_.BroadcastsInDim S4096 (![] : Fin 0 → Fin S4096.rank)
  reducesTo_S4096_S_d0 : S4096.ReducesTo [0] S_
  h_S_ : 0 < S_.numel
  reducesTo_S128x4096_S128_d1 : S128x4096.ReducesTo [1] S128
  reducesTo_S128_S_d0 : S128.ReducesTo [0] S_
  dot_S128x4096_S4096_S128_1_0_0_n_n_n_wf : DotDims.WF S128x4096 S4096 S128 [1] [0] [0] [] [] []
  dot_S128x4096_S4096x4096_S128x4096_1_0_0_1_n_n_wf : DotDims.WF S128x4096 S4096x4096 S128x4096 [1] [0] [0] [1] [] []
  dot_S4096x4096_S4096_S4096_1_0_0_n_n_n_wf : DotDims.WF S4096x4096 S4096 S4096 [1] [0] [0] [] [] []

variable [Facts]

def dot_S128x4096_S4096_S128_1_0_0_n_n_n : DotDims S128x4096 S4096 S128 where
  lhsContracting := [1]
  rhsContracting := [0]
  lhsNonContracting := [0]
  rhsNonContracting := []
  lhsBatch := []
  rhsBatch := []
  wf := dot_S128x4096_S4096_S128_1_0_0_n_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S4096x4096_S4096_S4096_1_0_0_n_n_n : DotDims S4096x4096 S4096 S4096 where
  lhsContracting := [1]
  rhsContracting := [0]
  lhsNonContracting := [0]
  rhsNonContracting := []
  lhsBatch := []
  rhsBatch := []
  wf := dot_S4096x4096_S4096_S4096_1_0_0_n_n_n_wf
def fn_where {F : FTy → Type} [FloatOps F] (arg0 : IVec S128x4096 1) (arg1 : FVec F S128x4096 .f32) (arg2 : FVec F S128x4096 .f32) : FVec F S128x4096 .f32 :=
  let v0 : FVec F S128x4096 .f32 := select arg0 arg1 arg2
  v0

def fn_norm {F : FTy → Type} [FloatOps F] (arg0 : FVec F S128x4096 .f32) : FVec F S128 .f32 :=
  let v0 : FVec F S128x4096 .f32 := mulf arg0 arg0
  let cst : FVec F S_ .f32 := constant S_ .f32 0x00000000#32
  let v1 : FVec F S128 .f32 := (fun x v => Host.reduceAdd x v reducesTo_S128x4096_S128_d1 h_S_) v0 cst
  let v2 : FVec F S128 .f32 := Host.sqrt v1
  v2

def fn_part1 {F : FTy → Type} [FloatOps F] (main_arg0 : FVec F S4096 .f32) (main_arg6 : FVec F S1 .f32) (main_v0 : FVec F S128x4096 .f32) (main_v9 : FVec F S128 .f32) (main_v20 : FVec F S128x4096 .f32) : IVec S_ 1 :=
  let main_cst_2 : FVec F S_ .f32 := constant S_ .f32 0x00000000#32
  let main_v21 : FVec F S128x4096 .f32 := broadcastInDim S128x4096 ![] bcast_S_S128x4096 main_cst_2
  let main_v22 : IVec S128x4096 1 := cmpf .oge main_v20 main_v21
  let main_v23 : FVec F S1x1 .f32 := broadcastInDim S1x1 ![1] bcast_S1_S1x1_1 main_arg6
  let main_v24 : FVec F S128x4096 .f32 := broadcastInDim S128x4096 ![0, 1] bcast_S1x1_S128x4096_0_1 main_v23
  let main_v25 : FVec F S128x4096 .f32 := mulf main_v24 main_v20
  let main_v26 : FVec F S128x4096 .f32 := fn_where (F := F) main_v22 main_v20 main_v25
  let main_v27 : FVec F S128x1 .f32 := broadcastInDim S128x1 ![0] bcast_S128_S128x1_0 main_v9
  let main_v28 : FVec F S128x4096 .f32 := broadcastInDim S128x4096 ![0, 1] bcast_S128x1_S128x4096_0_1 main_v27
  let main_v29 : FVec F S128x4096 .f32 := mulf main_v28 main_v26
  let main_v30 : FVec F S128x4096 .f32 := addf main_v0 main_v29
  let main_v31 : FVec F S4096 .f32 := Host.absf main_arg0
  let main_cst_3 : FVec F S_ .f32 := constant S_ .f32 0x7F800000#32
  let main_v32 : FVec F S4096 .f32 := broadcastInDim S4096 ![] bcast_S_S4096 main_cst_3
  let main_v33 : IVec S4096 1 := cmpf .olt main_v31 main_v32
  let main_c : IVec S_ 1 := constantI S_ 1 1#1
  let main_v34 : IVec S_ 1 := (fun x v => Host.reduce IntOp.andi x v reducesTo_S4096_S_d0 h_S_) main_v33 main_c
  let main_v35 : FVec F S128 .f32 := fn_norm (F := F) main_v30
  let main_cst_4 : FVec F S_ .f32 := constant S_ .f32 0x00000000#32
  let main_v36 : FVec F S128 .f32 := broadcastInDim S128 ![] bcast_S_S128 main_cst_4
  let main_v37 : IVec S128 1 := cmpf .une main_v35 main_v36
  let main_c_5 : IVec S_ 1 := constantI S_ 1 1#1
  let main_v38 : IVec S_ 1 := (fun x v => Host.reduce IntOp.andi x v reducesTo_S128_S_d0 h_S_) main_v37 main_c_5
  let main_v39 : IVec S_ 1 := andi main_v34 main_v38
  main_v39

def fn {F : FTy → Type} [FloatOps F] (main_arg0 : FVec F S4096 .f32) (main_arg1 : FVec F S524288 .f32) (main_arg2 : FVec F S128x4096 .f32) (main_arg3 : FVec F S4096x4096 .f32) (main_arg4 : FVec F S4096x4096 .f32) (main_arg5 : FVec F S4096x4096 .f32) (main_arg6 : FVec F S1 .f32) : IVec S_ 1 :=
  let main_v0 : FVec F S128x4096 .f32 := shapeCast S128x4096 main_arg1 shapeCasts_S524288_S128x4096
  let main_v1 : FVec F S128 .f32 := (fun l r => Host.dotGeneral dot_S128x4096_S4096_S128_1_0_0_n_n_n none l r) main_v0 main_arg0
  let main_v2 : FVec F S128 .f32 := (fun l r => Host.dotGeneral dot_S128x4096_S4096_S128_1_0_0_n_n_n none l r) main_arg2 main_arg0
  let main_v3 : FVec F S128 .f32 := addf main_v1 main_v2
  let main_v4 : FVec F S128 .f32 := Host.negf main_v3
  let main_v5 : FVec F S128 .f32 := Host.exp main_v4
  let main_cst : FVec F S_ .f32 := constant S_ .f32 0x3F800000#32
  let main_v6 : FVec F S128 .f32 := broadcastInDim S128 ![] bcast_S_S128 main_cst
  let main_v7 : FVec F S128 .f32 := addf main_v6 main_v5
  let main_cst_0 : FVec F S_ .f32 := constant S_ .f32 0x3F800000#32
  let main_v8 : FVec F S128 .f32 := broadcastInDim S128 ![] bcast_S_S128 main_cst_0
  let main_v9 : FVec F S128 .f32 := Host.divf main_v8 main_v7
  let main_v10 : FVec F S4096x4096 .f32 := (transpose S4096x4096 [1, 0] · transposes_S4096x4096_S4096x4096_1_0) main_arg3
  let main_v11 : FVec F S128x4096 .f32 := (fun l r => Host.dotGeneral dot_S128x4096_S4096x4096_S128x4096_1_0_0_1_n_n none l r) main_v0 main_v10
  let main_v12 : FVec F S4096x4096 .f32 := (transpose S4096x4096 [1, 0] · transposes_S4096x4096_S4096x4096_1_0) main_arg4
  let main_v13 : FVec F S128x4096 .f32 := (fun l r => Host.dotGeneral dot_S128x4096_S4096x4096_S128x4096_1_0_0_1_n_n none l r) main_arg2 main_v12
  let main_v14 : FVec F S128x4096 .f32 := addf main_v11 main_v13
  let main_v15 : FVec F S4096 .f32 := (fun l r => Host.dotGeneral dot_S4096x4096_S4096_S4096_1_0_0_n_n_n none l r) main_arg5 main_arg0
  let main_v16 : FVec F S1x4096 .f32 := broadcastInDim S1x4096 ![1] bcast_S4096_S1x4096_1 main_v15
  let main_v17 : FVec F S128x4096 .f32 := broadcastInDim S128x4096 ![0, 1] bcast_S1x4096_S128x4096_0_1 main_v16
  let main_v18 : FVec F S128x4096 .f32 := addf main_v14 main_v17
  let main_cst_1 : FVec F S_ .f32 := constant S_ .f32 0x3C23D70A#32
  let main_v19 : FVec F S128x4096 .f32 := broadcastInDim S128x4096 ![] bcast_S_S128x4096 main_cst_1
  let main_v20 : FVec F S128x4096 .f32 := addf main_v18 main_v19
  fn_part1 (F := F) main_arg0 main_arg6 main_v0 main_v9 main_v20
-- ==== Kernel.lean ====
abbrev S4096 : Shape := ⟨1, ![4096]⟩
abbrev S524288 : Shape := ⟨1, ![524288]⟩
abbrev S128x4096 : Shape := ⟨2, ![128, 4096]⟩
abbrev S4096x4096 : Shape := ⟨2, ![4096, 4096]⟩
abbrev S1 : Shape := ⟨1, ![1]⟩
abbrev S1x4096 : Shape := ⟨2, ![1, 4096]⟩
abbrev S1x1 : Shape := ⟨2, ![1, 1]⟩
abbrev S256x4096 : Shape := ⟨2, ![256, 4096]⟩
abbrev S128x1 : Shape := ⟨2, ![128, 1]⟩
abbrev S128 : Shape := ⟨1, ![128]⟩
abbrev S128x256 : Shape := ⟨2, ![128, 256]⟩
abbrev S1x256 : Shape := ⟨2, ![1, 256]⟩

abbrev nBuf : Space → Nat
  | .hbm => 12
  | .vmem => 13
  | .smem => 0
  | _ => 0

abbrev bufTy : (tb : Table) → Fin (tcTables nBuf tb) → BufTy
  | .hbm, ⟨0, _⟩ => ⟨S4096, .f32⟩
  | .hbm, ⟨1, _⟩ => ⟨S524288, .f32⟩
  | .hbm, ⟨2, _⟩ => ⟨S128x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1, .f32⟩
  | .hbm, ⟨7, _⟩ => ⟨S128x4096, .f32⟩
  | .hbm, ⟨8, _⟩ => ⟨S1x4096, .f32⟩
  | .hbm, ⟨9, _⟩ => ⟨S1x1, .f32⟩
  | .hbm, ⟨10, _⟩ => ⟨S128x4096, .f32⟩
  | .hbm, ⟨11, _⟩ => ⟨S524288, .f32⟩
  | .local _ .vmem, ⟨0, _⟩ => ⟨S1x4096, .f32⟩
  | .local _ .vmem, ⟨1, _⟩ => ⟨S128x4096, .f32⟩
  | .local _ .vmem, ⟨2, _⟩ => ⟨S128x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x1, .f32⟩
  | .local _ .vmem, ⟨10, _⟩ => ⟨S128x4096, .f32⟩
  | .local _ .vmem, ⟨11, _⟩ => ⟨S128x1, .f32⟩
  | .local _ .vmem, ⟨12, _⟩ => ⟨S128x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_18 : Index := 0#32
  let arg0 : BitVec 32 := BitVec.ofNat 32 (i 0).val
  let c256_i32 : BitVec 32 := 256#32
  let v26 : BitVec 32 := Scalar.muli arg0 c256_i32
  let v27 : Index := Scalar.indexCast v26
  ![0, v27.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096 : Shape := ⟨1, ![4096]⟩
abbrev S524288 : Shape := ⟨1, ![524288]⟩
abbrev S128x4096 : Shape := ⟨2, ![128, 4096]⟩
abbrev S4096x4096 : Shape := ⟨2, ![4096, 4096]⟩
abbrev S1 : Shape := ⟨1, ![1]⟩
abbrev S128 : Shape := ⟨1, ![128]⟩
abbrev S_ : Shape := ⟨0, ![]⟩
abbrev S1x4096 : Shape := ⟨2, ![1, 4096]⟩
abbrev S1x1 : Shape := ⟨2, ![1, 1]⟩
abbrev S128x1 : Shape := ⟨2, ![128, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096, .f32⟩
  | .hbm, ⟨1, _⟩ => ⟨S524288, .f32⟩
  | .hbm, ⟨2, _⟩ => ⟨S128x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S1, .f32⟩
  | .hbm, ⟨7, _⟩ => ⟨S128x4096, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S4096x4096, .f32⟩
  | .hbm, ⟨20, _⟩ => ⟨S128x4096, .f32⟩
  | .hbm, ⟨21, _⟩ => ⟨S4096x4096, .f32⟩
  | .hbm, ⟨22, _⟩ => ⟨S128x4096, .f32⟩
  | .hbm, ⟨23, _⟩ => ⟨S128x4096, .f32⟩
  | .hbm, ⟨24, _⟩ => ⟨S4096, .f32⟩
  | .hbm, ⟨25, _⟩ => ⟨S1x4096, .f32⟩
  | .hbm, ⟨26, _⟩ => ⟨S128x4096, .f32⟩
  | .hbm, ⟨27, _⟩ => ⟨S128x4096, .f32⟩
  | .hbm, ⟨28, _⟩ => ⟨S_, .f32⟩
  | .hbm, ⟨29, _⟩ => ⟨S128x4096, .f32⟩
  | .hbm, ⟨30, _⟩ => ⟨S128x4096, .f32⟩
  | .hbm, ⟨31, _⟩ => ⟨S_, .f32⟩
  | .hbm, ⟨32, _⟩ => ⟨S128x4096, .f32⟩
  | .hbm, ⟨33, _⟩ => ⟨S128x4096, .i1⟩
  | .hbm, ⟨34, _⟩ => ⟨S1x1, .f32⟩
  | .hbm, ⟨35, _⟩ => ⟨S128x4096, .f32⟩
  | .hbm, ⟨36, _⟩ => ⟨S128x4096, .f32⟩
  | .hbm, ⟨37, _⟩ => ⟨S128x4096, .f32⟩
  | .hbm, ⟨38, _⟩ => ⟨S128x1, .f32⟩
  | .hbm, ⟨39, _⟩ => ⟨S128x4096, .f32⟩
  | .hbm, ⟨40, _⟩ => ⟨S128x4096, .f32⟩
  | .hbm, ⟨41, _⟩ => ⟨S128x4096, .f32⟩
  | .hbm, ⟨42, _⟩ => ⟨S128x4096, .f32⟩
  | .hbm, ⟨43, _⟩ => ⟨S_, .f32⟩
  | .hbm, ⟨44, _⟩ => ⟨S128, .f32⟩
  | .hbm, ⟨45, _⟩ => ⟨S128x1, .f32⟩
  | .hbm, ⟨46, _⟩ => ⟨S128x1, .f32⟩
  | .hbm, ⟨47, _⟩ => ⟨S128x4096, .f32⟩
  | .hbm, ⟨48, _⟩ => ⟨S128x4096, .f32⟩
  | .hbm, ⟨49, _⟩ => ⟨S524288, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Spec.lean ====
module

public import Idealize.ShloMosaic.PureOps.Ideal.Laws
public import Idealize.ShloMosaic.Lib.IdealHost

@[expose] public section

noncomputable section

namespace Cert.KernelIdeal.Hand

open Idealize.ShloMosaic

/-! The update of the memory blocks, in plain words: `s` is the encoded input, `h` the blocks, `k` the keys, `U`, `V`, `W` the
    three weights, `a` the slope of the activation. -/

variable (s : Fin 4096 → EReal) (h k : Fin 128 → Fin 4096 → EReal) (U V W : Fin 4096 → Fin 4096 → EReal) (a : EReal)

/-- What the gate of block `i` is taken of: the input against the block, and against the block's key. -/
def score (i : Fin 128) : EReal := (∑ p, h i p * s p) + ∑ p, k i p * s p

/-- The candidate of block `i` at lane `q`, before the activation. -/
def lin (i : Fin 128) (q : Fin 4096) : EReal :=
  (((∑ p, h i p * U q p) + ∑ p, k i p * V q p) + ∑ p, W q p * s p) + Ideal.ofBits .f32 0x3C23D70A#32

/-- The activation with slope `a` below zero. -/
def act (x : EReal) : EReal := if 0 ≤ x then x else a * x

/-- The updated block `i` at lane `q`, not yet scaled. -/
def upd (i : Fin 128) (q : Fin 4096) : EReal := h i q + Ideal.logistic (score s h k i) * act a (lin s h k U V W i q)

/-- The length of the updated block `i`. -/
def len (i : Fin 128) : EReal := Ideal.sqrt (∑ q, upd s h k U V W a i q * upd s h k U V W a i q)

/-- The new block `i` at lane `q`: the updated block over its length. -/
def new (i : Fin 128) (q : Fin 4096) : EReal := Ideal.div (upd s h k U V W a i q) (len s h k U V W a i)

/-- A product with a real factor distributes over every sum of extended reals that has a real summand. -/
theorem add_mul_real (x : EReal) (y z : ℝ) : (x + (y : EReal)) * (z : EReal) = x * (z : EReal) + (y : EReal) * (z : EReal) := by
  rcases lt_trichotomy z 0 with hz | hz | hz
  · induction x with
    | bot => rw [EReal.bot_add, EReal.bot_mul_coe_of_neg hz, ← EReal.coe_mul, EReal.top_add_coe]
    | coe x => norm_cast; ring
    | top => rw [EReal.top_add_coe, EReal.top_mul_coe_of_neg hz, ← EReal.coe_mul, EReal.bot_add]
  · subst hz; simp
  · induction x with
    | bot => rw [EReal.bot_add, EReal.bot_mul_coe_of_pos hz, EReal.bot_add]
    | coe x => norm_cast; ring
    | top => rw [EReal.top_add_coe, EReal.top_mul_coe_of_pos hz, ← EReal.coe_mul, EReal.top_add_coe]

/-- An extended real below infinity in size is a real. -/
theorem real_of_abs_lt {x : EReal} (h : max x (-x) < ⊤) : ∃ r : ℝ, x = r := by
  induction x with
  | bot => simp at h
  | coe r => exact ⟨r, rfl⟩
  | top => simp at h

/-- The gate of block `i` from ONE sum, of block and key added. -/
def gate1 (i : Fin 128) : EReal := Ideal.logistic (∑ p, (h i p + k i p) * s p)

/-- With a real input and a real block the score is that one sum. -/
theorem score_eq (hs : ∀ p, ∃ r : ℝ, s p = r) (i : Fin 128) (hh : ∀ p, ∃ r : ℝ, h i p = r) :
    ∑ p, (h i p + k i p) * s p = score s h k i := by
  unfold score
  rw [← Finset.sum_add_distrib]
  refine Finset.sum_congr rfl fun p _ => ?_
  obtain ⟨x, hx⟩ := hs p
  obtain ⟨y, hy⟩ := hh p
  rw [hx, hy, add_comm, add_mul_real, add_comm]

/-- Block `i` at lane `q`, updated under the gate `g`. -/
def gated (g : EReal) (i : Fin 128) (q : Fin 4096) : EReal := h i q + g * act a (lin s h k U V W i q)

/-- A square is not negative. -/
theorem square_nonneg (x : EReal) : 0 ≤ x * x := by
  induction x with
  | bot => rw [EReal.bot_mul_bot]; exact le_top
  | coe r => rw [← EReal.coe_mul]; exact EReal.coe_nonneg.mpr (mul_self_nonneg r)
  | top => rw [EReal.top_mul_top]; exact le_top

/-- An infinite number stays infinite whatever is added, so the square of the sum is infinity. -/
theorem square_of_infinite {x : EReal} (hx : ¬ ∃ r : ℝ, x = r) (y : EReal) : (x + y) * (x + y) = ⊤ := by
  induction x with
  | bot => rw [EReal.bot_add, EReal.bot_mul_bot]
  | coe r => exact absurd ⟨r, rfl⟩ hx
  | top =>
    induction y with
    | bot => rw [EReal.add_bot, EReal.bot_mul_bot]
    | coe r => rw [EReal.top_add_coe, EReal.top_mul_top]
    | top => rw [EReal.top_add_top, EReal.top_mul_top]

/-- A block with an infinite entry has infinite length after the update, under every gate. -/
theorem length_of_infinite (g : EReal) {i : Fin 128} {p : Fin 4096} (hp : ¬ ∃ r : ℝ, h i p = r) :
    Ideal.sqrt (∑ q, gated s h k U V W a g i q * gated s h k U V W a g i q) = ⊤ := by
  have e : ∑ q, gated s h k U V W a g i q * gated s h k U V W a g i q = ⊤ :=
    top_le_iff.mp ((square_of_infinite hp _).symm.le.trans
      (Finset.single_le_sum (f := fun q => gated s h k U V W a g i q * gated s h k U V W a g i q) (fun q _ => square_nonneg _) (Finset.mem_univ p)))
  rw [e]
  rfl

/-- A quotient by infinity is zero. -/
theorem div_top (x : EReal) : Ideal.div x ⊤ = 0 := by
  rw [Ideal.div, if_neg EReal.top_ne_zero, EReal.inv_top, mul_zero]

/-- The block updated under the gate from one sum and scaled by the reciprocal of its own length is the new block: a real block has
    the same gate, and a block with an infinite entry is zero on either side. -/
theorem scaled_eq (hs : ∀ p, ∃ r : ℝ, s p = r) (i : Fin 128) (hl : len s h k U V W a i ≠ 0) (q : Fin 4096) :
    gated s h k U V W a (gate1 s h k i) i q * Ideal.div 1 (Ideal.sqrt (∑ q, gated s h k U V W a (gate1 s h k i) i q * gated s h k U V W a (gate1 s h k i) i q))
      = new s h k U V W a i q := by
  by_cases hh : ∀ p, ∃ r : ℝ, h i p = r
  · rw [gate1, score_eq s h k hs i hh]
    exact Ideal.mul_one_div hl
  · obtain ⟨p, hp⟩ := not_forall.mp hh
    rw [length_of_infinite s h k U V W a _ hp, div_top, mul_zero]
    refine ((div_top _).symm.trans (congrArg (Ideal.div (upd s h k U V W a i q)) ?_))
    exact (length_of_infinite s h k U V W a (Ideal.logistic (score s h k i)) hp).symm

/-- Sixteen sums over 256 lanes each are the sum over the 4096 lanes. -/
theorem lanes (f : Fin 4096 → EReal) :
    ∑ t : Fin 16, ∑ j : Fin 256, f ⟨256 * t.val + j.val, by omega⟩ = ∑ q, f q := by
  rw [← Fintype.sum_prod_type', ← (finProdFinEquiv (m := 16) (n := 256)).sum_comp f]
  refine Finset.sum_congr rfl fun x _ => congrArg f (Fin.ext ?_)
  show 256 * x.1.val + x.2.val = x.2.val + 256 * x.1.val
  omega

end Cert.KernelIdeal.Hand

end
-- ==== Proof.Reference.lean ====
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Read Cert.KernelIdeal.Hand

/-- An index of a matrix is its two coordinates. -/
theorem at2 {n0 n1 : ℕ} (j : (⟨2, ![n0, n1]⟩ : Shape).Idx) (a : Fin n0) (b : Fin n1) (h0 : j 0 = a) (h1 : j 1 = b) : j = ix2 a b :=
  funext fun x => match x with
    | ⟨0, _⟩ => h0
    | ⟨1, _⟩ => h1

/-- An index of a vector is its coordinate. -/
theorem at1 {n0 : ℕ} (j : (⟨1, ![n0]⟩ : Shape).Idx) (a : Fin n0) (h0 : j 0 = a) : j = ix1 a :=
  funext fun x => match x with
    | ⟨0, _⟩ => h0

variable (x0 : (⟨S4096, .f32⟩ : BufTy).Contents (Elt Ideal)) (x1 : (⟨S524288, .f32⟩ : BufTy).Contents (Elt Ideal))
  (x2 : (⟨S128x4096, .f32⟩ : BufTy).Contents (Elt Ideal)) (x3 x4 x5 : (⟨S4096x4096, .f32⟩ : BufTy).Contents (Elt Ideal))
  (x6 : (⟨S1, .f32⟩ : BufTy).Contents (Elt Ideal))

/-- The input, by its coordinate. -/
abbrev sOf (p : Fin 4096) : EReal := x0 (ix1 p)
/-- The blocks, out of the flat argument. -/
abbrev hOf (i : Fin 128) (p : Fin 4096) : EReal := x1 (ix1 ⟨i.val * 4096 + p.val, by omega⟩)
/-- A matrix, by its coordinates. -/
abbrev matOf {n : ℕ} (x : (⟨⟨2, ![n, 4096]⟩, .f32⟩ : BufTy).Contents (Elt Ideal)) (i : Fin n) (p : Fin 4096) : EReal := x (ix2 i p)

/-- The blocks as a matrix. -/
theorem v0_at (i : Fin 128) (p : Fin 4096) : val_main_v0 (F := Ideal) x1 (ix2 i p) = hOf x1 i p :=
  (val_main_v0_apply x1 _).trans (congrArg x1 (at1 _ _ rfl))

/-- The gate. -/
theorem v9_at (i : Fin 128) : val_main_v9 (F := Ideal) x0 x1 x2 (ix1 i) = Ideal.logistic (score (sOf x0) (hOf x1) (matOf x2) i) := by
  have h1 : val_main_v1 (F := Ideal) x0 x1 (ix1 i) = ∑ p, hOf x1 i p * sOf x0 p := by
    rw [val_main_v1_apply]
    refine Finset.sum_congr rfl fun p _ => ?_
    rw [at2 (lidx_main_v1 (ix1 i) p) i p rfl rfl, v0_at, at1 (ridx_main_v1 (ix1 i) p) p rfl]
  have h2 : val_main_v2 (F := Ideal) x0 x2 (ix1 i) = ∑ p, matOf x2 i p * sOf x0 p := by
    rw [val_main_v2_apply]
    refine Finset.sum_congr rfl fun p _ => ?_
    rw [at2 (lidx_main_v2 (ix1 i) p) i p rfl rfl, at1 (ridx_main_v2 (ix1 i) p) p rfl]
  rw [val_main_v9_apply, val_main_v8_apply, val_main_cst_0_apply, val_main_v7_apply, val_main_v6_apply, val_main_cst_apply, val_main_v5_apply,
    val_main_v4_apply, val_main_v3_apply, h1, h2]
  show Ideal.div (Ideal.ofBits .f32 0x3F800000#32) (Ideal.ofBits .f32 0x3F800000#32 + Ideal.exp (-(score (sOf x0) (hOf x1) (matOf x2) i))) = _
  rw [Ideal.ofBits_one_f32]
  rfl

/-- The candidate before its activation. -/
theorem v20_at (i : Fin 128) (q : Fin 4096) : val_main_v20 (F := Ideal) x0 x1 x2 x3 x4 x5 (ix2 i q)
    = lin (sOf x0) (hOf x1) (matOf x2) (matOf x3) (matOf x4) (matOf x5) i q := by
  have h1 : val_main_v11 (F := Ideal) x1 x3 (ix2 i q) = ∑ p, hOf x1 i p * matOf x3 q p := by
    rw [val_main_v11_apply]
    refine Finset.sum_congr rfl fun p _ => ?_
    rw [at2 (lidx_main_v11 (ix2 i q) p) i p rfl rfl, v0_at, val_main_v10_apply, at2 (idx_main_v10 (ridx_main_v11 (ix2 i q) p)) q p rfl rfl]
  have h2 : val_main_v13 (F := Ideal) x2 x4 (ix2 i q) = ∑ p, matOf x2 i p * matOf x4 q p := by
    rw [val_main_v13_apply]
    refine Finset.sum_congr rfl fun p _ => ?_
    rw [at2 (lidx_main_v13 (ix2 i q) p) i p rfl rfl, val_main_v12_apply, at2 (idx_main_v12 (ridx_main_v13 (ix2 i q) p)) q p rfl rfl]
  have h3 : val_main_v17 (F := Ideal) x0 x5 (ix2 i q) = ∑ p, matOf x5 q p * sOf x0 p := by
    rw [val_main_v17_apply, val_main_v16_apply, at1 (idx_main_v16 (idx_main_v17 (ix2 i q))) q rfl, val_main_v15_apply]
    refine Finset.sum_congr rfl fun p _ => ?_
    rw [at2 (lidx_main_v15 (ix1 q) p) q p rfl rfl, at1 (ridx_main_v15 (ix1 q) p) p rfl]
  rw [val_main_v20_apply, val_main_v19_apply, val_main_cst_1_apply, val_main_v18_apply, val_main_v14_apply, h1, h2, h3]
  rfl

/-- The activation. -/
theorem v26_at (i : Fin 128) (q : Fin 4096) : val_main_v26 (F := Ideal) x0 x1 x2 x3 x4 x5 x6 (ix2 i q)
    = act (x6 (ix1 0)) (lin (sOf x0) (hOf x1) (matOf x2) (matOf x3) (matOf x4) (matOf x5) i q) := by
  rw [val_main_v26_apply, val_main_v22_apply, val_main_v25_apply, val_main_v24_apply, val_main_v23_apply, val_main_v21_apply, val_main_cst_2_apply, v20_at,
    at1 (idx_main_v23 (idx_main_v24 (ix2 i q))) 0 rfl]
  generalize lin (sOf x0) (hOf x1) (matOf x2) (matOf x3) (matOf x4) (matOf x5) i q = z
  show Scalar.select (Ideal.cmp .oge z (Ideal.ofBits .f32 0x00000000#32)) z (x6 (ix1 0) * z) = _
  rw [Ideal.ofBits_zero_f32]
  unfold act Scalar.select Ideal.cmp
  by_cases h : 0 ≤ z <;> simp [h]

/-- The updated blocks. -/
theorem v30_at (i : Fin 128) (q : Fin 4096) : val_main_v30 (F := Ideal) x0 x1 x2 x3 x4 x5 x6 (ix2 i q)
    = upd (sOf x0) (hOf x1) (matOf x2) (matOf x3) (matOf x4) (matOf x5) (x6 (ix1 0)) i q := by
  rw [val_main_v30_apply, val_main_v29_apply, val_main_v28_apply, val_main_v27_apply, at1 (idx_main_v27 (idx_main_v28 (ix2 i q))) i rfl, v9_at, v26_at, v0_at]
  rfl

/-- Their lengths. -/
theorem v31_at (i : Fin 128) : val_main_v31 (F := Ideal) x0 x1 x2 x3 x4 x5 x6 (ix2 i 0)
    = len (sOf x0) (hOf x1) (matOf x2) (matOf x3) (matOf x4) (matOf x5) (x6 (ix1 0)) i := by
  rw [val_main_v31_apply, val_main_call1_v2_apply, at1 (idx_main_call1_v2 (ix2 i 0)) i rfl, val_main_call1_v1_apply, val_main_call1_cst_apply]
  show Ideal.sqrt (Ideal.ofBits .f32 0x00000000#32 + _) = Ideal.sqrt _
  rw [Ideal.ofBits_zero_f32, zero_add]
  refine congrArg Ideal.sqrt (Finset.sum_congr rfl fun q _ => ?_)
  rw [at2 (idx_main_call1_v1 (ix1 i) q) i q rfl rfl, val_main_call1_v0_apply, v30_at]
  rfl

/-- The new blocks. -/
theorem v33_at (i : Fin 128) (q : Fin 4096) : val_main_v33 (F := Ideal) x0 x1 x2 x3 x4 x5 x6 (ix2 i q)
    = new (sOf x0) (hOf x1) (matOf x2) (matOf x3) (matOf x4) (matOf x5) (x6 (ix1 0)) i q := by
  rw [val_main_v33_apply, val_main_v32_apply, at2 (idx_main_v32 (ix2 i q)) i 0 rfl rfl, v30_at, v31_at]
  rfl

/-- The flat result. -/
theorem v34_at (n : S524288.Idx) (h0 : (n 0).val / 4096 < 128) (h1 : (n 0).val % 4096 < 4096) : val_main_v34 (F := Ideal) x0 x1 x2 x3 x4 x5 x6 n
    = new (sOf x0) (hOf x1) (matOf x2) (matOf x3) (matOf x4) (matOf x5) (x6 (ix1 0)) ⟨(n 0).val / 4096, h0⟩ ⟨(n 0).val % 4096, h1⟩ := by
  rw [val_main_v34_apply, at2 (idx_main_v34 n) ⟨(n 0).val / 4096, h0⟩ ⟨(n 0).val % 4096, h1⟩ rfl rfl, v33_at]

end Cert.ReferenceIdeal.Hand

end
-- ==== Proof.Cells.lean ====
/-
  The grid point's two conditions, the memrefs a grid point runs on, and the body's three results named as functions of
  the blocks it reads: the gate, the tile, and the running sum of squares.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

/-- The point is the grid's first: the gate is computed and the sum of squares is reset. -/
abbrev isFirst (i : grid0.Coords) : Prop :=
  (Scalar.cmpi .ne (Scalar.extui (Scalar.cmpi .eq (BitVec.ofNat 32 (i 0).val) 0#32)) 0#32) = 1#1

/-- The point is the grid's last: the stored block is scaled. -/
abbrev isLast (i : grid0.Coords) : Prop :=
  (Scalar.cmpi .ne (Scalar.extui (Scalar.cmpi .eq (BitVec.ofNat 32 (i 0).val) 15#32)) 0#32) = 1#1

/-- The one grid coordinate of point `t` is `t`. -/
theorem coord_val (t : Fin grid0.N) : (grid0.coords t 0).val = t.val := by
  have ht : t.val < 16 := Nat.lt_of_lt_of_eq t.isLt N_0
  have e : (grid0.coords t 0).val = t.val / 1 % 16 := Pipeline.Grid.coords_val t 0 (by decide) rfl
  omega

/-- The first condition holds exactly at point 0. -/
theorem isFirst_iff (t : Fin grid0.N) : isFirst (grid0.coords t) ↔ t.val = 0 := by
  have ht : t.val < 16 := Nat.lt_of_lt_of_eq t.isLt N_0
  have e := coord_val t
  simp only [isFirst, e]
  word_cmp

/-- The second condition holds exactly at point 15. -/
theorem isLast_iff (t : Fin grid0.N) : isLast (grid0.coords t) ↔ t.val = 15 := by
  have ht : t.val < 16 := Nat.lt_of_lt_of_eq t.isLt N_0
  have e := coord_val t
  simp only [isLast, e]
  word_cmp

/-- The scratch that carries the gate. -/
abbrev gateM : Memref sig .tc .vmem S128x1 .f32 := Memref.whole cc0_scratch0
/-- The scratch that carries the sum of squares. -/
abbrev ssM : Memref sig .tc .vmem S128x1 .f32 := Memref.whole cc0_scratch1

/-- The columns of a [128,4096] block that point `i` works on. -/
abbrev cols (i : grid0.Coords) : Rect S128x4096 := Rect.unit (s := S128x4096) (k0_off1 i) S128x256.size (k0_off1_inb i)

/-- The candidate part of the tile: the gate times the activated sum of the three products and the bias. -/
abbrev candOf (s : Vec F S1x4096 .f32) (hb keys : Vec F S128x4096 .f32) (U V W : Vec F S256x4096 .f32) (a : Vec F S1x1 .f32)
    (g : Vec F S128x1 .f32) := k0_pay7 hb U keys V s W a g

/-- The gate of every row, from the state vector, the rows and the keys. -/
abbrev gateOf (s : Vec F S1x4096 .f32) (hb keys : Vec F S128x4096 .f32) : Vec F S128x1 .f32 := k0_pay4 hb keys s

/-- The columns of the rows that point `i` works on. -/
abbrev colsOf (i : grid0.Coords) (hb : Vec F S128x4096 .f32) : Vec F S128x256 .f32 :=
  fun x => hb ((cols i).emb x)

/-- The tile point `i` stores. -/
abbrev tileOf (i : grid0.Coords) (s : Vec F S1x4096 .f32) (hb keys : Vec F S128x4096 .f32) (U V W : Vec F S256x4096 .f32)
    (a : Vec F S1x1 .f32) (g : Vec F S128x1 .f32) : Vec F S128x256 .f32 :=
  k0_pay1 (k0_pay6 (colsOf i hb)) (candOf s hb keys U V W a g)

/-- The sum of squares after point `i`, from the one before it. -/
abbrev ssOf (i : grid0.Coords) (s : Vec F S1x4096 .f32) (hb keys : Vec F S128x4096 .f32) (U V W : Vec F S256x4096 .f32)
    (a : Vec F S1x1 .f32) (g ss : Vec F S128x1 .f32) : Vec F S128x1 .f32 :=
  k0_pay2 (k0_pay6 (colsOf i hb)) (candOf s hb keys U V W a g) ss

/-- The output block after point `i` stored its tile into block `Y`. -/
abbrev putOf (i : grid0.Coords) (Y : Vec F S128x4096 .f32) (T : Vec F S128x256 .f32) : Vec F S128x4096 .f32 :=
  VecWindow.put Y (k0_off1 i) S128x256.size T

/-! ## A load or a store of a whole buffer -/

section Whole
variable {κ : Kind} {sp : Space}

/-- A load of all of a 1 by 4096 buffer reads what the buffer holds. -/
theorem load_S1x4096 (v : View sig κ sp S1x4096 .f32) (f : v.ty.Contents (Elt F)) (inb : ∀ x, (![0, 0] : Fin 2 → ℕ) x + (![1, 4096] : Fin 2 → ℕ) x ≤ S1x4096.size x) :
    v.readAt (Elt F) (Rect.unit (s := S1x4096) ![0, 0] ![1, 4096] inb).toLoadRect f = v.read (Elt F) f := View.readAt_full v f inb

/-- A load of all of a 128 by 4096 buffer reads what the buffer holds. -/
theorem load_S128x4096 (v : View sig κ sp S128x4096 .f32) (f : v.ty.Contents (Elt F)) (inb : ∀ x, (![0, 0] : Fin 2 → ℕ) x + (![128, 4096] : Fin 2 → ℕ) x ≤ S128x4096.size x) :
    v.readAt (Elt F) (Rect.unit (s := S128x4096) ![0, 0] ![128, 4096] inb).toLoadRect f = v.read (Elt F) f := View.readAt_full v f inb

/-- A load of all of a 256 by 4096 buffer reads what the buffer holds. -/
theorem load_S256x4096 (v : View sig κ sp S256x4096 .f32) (f : v.ty.Contents (Elt F)) (inb : ∀ x, (![0, 0] : Fin 2 → ℕ) x + (![256, 4096] : Fin 2 → ℕ) x ≤ S256x4096.size x) :
    v.readAt (Elt F) (Rect.unit (s := S256x4096) ![0, 0] ![256, 4096] inb).toLoadRect f = v.read (Elt F) f := View.readAt_full v f inb

/-- A load of all of a 1 by 1 buffer reads what the buffer holds. -/
theorem load_S1x1 (v : View sig κ sp S1x1 .f32) (f : v.ty.Contents (Elt F)) (inb : ∀ x, (![0, 0] : Fin 2 → ℕ) x + (![1, 1] : Fin 2 → ℕ) x ≤ S1x1.size x) :
    v.readAt (Elt F) (Rect.unit (s := S1x1) ![0, 0] ![1, 1] inb).toLoadRect f = v.read (Elt F) f := View.readAt_full v f inb

/-- A load of all of a 128 by 1 buffer reads what the buffer holds. -/
theorem load_S128x1 (v : View sig κ sp S128x1 .f32) (f : v.ty.Contents (Elt F)) (inb : ∀ x, (![0, 0] : Fin 2 → ℕ) x + (![128, 1] : Fin 2 → ℕ) x ≤ S128x1.size x) :
    v.readAt (Elt F) (Rect.unit (s := S128x1) ![0, 0] ![128, 1] inb).toLoadRect f = v.read (Elt F) f := View.readAt_full v f inb

/-- A store of all of a 128 by 4096 buffer leaves what was stored. -/
theorem store_S128x4096 (v : View sig κ sp S128x4096 .f32) (f : v.ty.Contents (Elt F)) (inb : ∀ x, (![0, 0] : Fin 2 → ℕ) x + (![128, 4096] : Fin 2 → ℕ) x ≤ S128x4096.size x)
    (w : (Rect.unit (s := S128x4096) ![0, 0] ![128, 4096] inb).shape.Idx → Elt F .f32) (L : List (View.Piece (Elt F) S128x4096 .f32)) :
    v.read (Elt F) (v.writes (Elt F) f (⟨Rect.unit (s := S128x4096) ![0, 0] ![128, 4096] inb, w⟩ :: L)) = w := View.read_writes_full v f inb w L

/-- A load of all of a 128 by 4096 buffer after a store of all of it reads what was stored. -/
theorem reload_S128x4096 (v : View sig κ sp S128x4096 .f32) (inb inb' : ∀ x, (![0, 0] : Fin 2 → ℕ) x + (![128, 4096] : Fin 2 → ℕ) x ≤ S128x4096.size x)
    (w : (Rect.unit (s := S128x4096) ![0, 0] ![128, 4096] inb').shape.Idx → Elt F .f32) (L : List (View.Piece (Elt F) S128x4096 .f32)) :
    v.readCov (⟨Rect.unit (s := S128x4096) ![0, 0] ![128, 4096] inb', w⟩ :: L) (Rect.unit (s := S128x4096) ![0, 0] ![128, 4096] inb).toLoadRect = w :=
  View.readCov_full v inb inb' w L

/-- A store of all of a 128 by 1 buffer leaves what was stored. -/
theorem store_S128x1 (v : View sig κ sp S128x1 .f32) (f : v.ty.Contents (Elt F)) (inb : ∀ x, (![0, 0] : Fin 2 → ℕ) x + (![128, 1] : Fin 2 → ℕ) x ≤ S128x1.size x)
    (w : (Rect.unit (s := S128x1) ![0, 0] ![128, 1] inb).shape.Idx → Elt F .f32) (L : List (View.Piece (Elt F) S128x1 .f32)) :
    v.read (Elt F) (v.writes (Elt F) f (⟨Rect.unit (s := S128x1) ![0, 0] ![128, 1] inb, w⟩ :: L)) = w := View.read_writes_full v f inb w L

/-- A load of all of a 128 by 1 buffer after a store of all of it reads what was stored. -/
theorem reload_S128x1 (v : View sig κ sp S128x1 .f32) (inb inb' : ∀ x, (![0, 0] : Fin 2 → ℕ) x + (![128, 1] : Fin 2 → ℕ) x ≤ S128x1.size x)
    (w : (Rect.unit (s := S128x1) ![0, 0] ![128, 1] inb').shape.Idx → Elt F .f32) (L : List (View.Piece (Elt F) S128x1 .f32)) :
    v.readCov (⟨Rect.unit (s := S128x1) ![0, 0] ![128, 1] inb', w⟩ :: L) (Rect.unit (s := S128x1) ![0, 0] ![128, 1] inb).toLoadRect = w :=
  View.readCov_full v inb inb' w L

/-- A store of a point's columns leaves the block with the tile put there. -/
theorem store_cols (v : View sig κ sp S128x4096 .f32) (f : v.ty.Contents (Elt F)) (i : grid0.Coords)
    (inb : ∀ x, k0_off1 i x + (![128, 256] : Fin 2 → ℕ) x ≤ S128x4096.size x)
    (w : (Rect.unit (s := S128x4096) (k0_off1 i) ![128, 256] inb).shape.Idx → Elt F .f32) :
    v.read (Elt F) (v.writes (Elt F) f [⟨Rect.unit (s := S128x4096) (k0_off1 i) ![128, 256] inb, w⟩]) = putOf i (v.read (Elt F) f) w :=
  View.read_writes_cons_put v f inb w [] rfl

/-- The same load, its sizes written as the tile's. -/
theorem load_cols' (v : View sig κ sp S128x4096 .f32) (f : v.ty.Contents (Elt F)) (i : grid0.Coords)
    (inb : ∀ x, k0_off1 i x + S128x256.size x ≤ S128x4096.size x) :
    v.readAt (Elt F) (Rect.unit (s := S128x4096) (k0_off1 i) S128x256.size inb).toLoadRect f = colsOf i (v.read (Elt F) f) := rfl

/-- A load of a point's columns reads those columns of what the buffer holds. -/
theorem load_cols (v : View sig κ sp S128x4096 .f32) (f : v.ty.Contents (Elt F)) (i : grid0.Coords)
    (inb : ∀ x, k0_off1 i x + (![128, 256] : Fin 2 → ℕ) x ≤ S128x4096.size x) :
    v.readAt (Elt F) (Rect.unit (s := S128x4096) (k0_off1 i) ![128, 256] inb).toLoadRect f = colsOf i (v.read (Elt F) f) := rfl

end Whole

end Cert.KernelIdeal.Hand

end
-- ==== Proof.Payload.lean ====
module

public import proofs.«01_k».proof.Proof.Cells
public import proofs.«01_k».proof.Proof.Spec
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal.Gen

/-! What the body computes, read at an index over the extended reals. -/

/-- The gate of block `i`. -/
theorem gateOf_apply (s : Vec Ideal S1x4096 .f32) (hb keys : Vec Ideal S128x4096 .f32) (i : Fin 128) :
    gateOf s hb keys (ix2 i 0) = Ideal.logistic (∑ p : Fin 4096, (hb (ix2 i p) + keys (ix2 i p)) * s (ix2 0 p)) := by
  unfold gateOf
  pointwise [k0_pay4]

/-- The last point's scaling. -/
theorem scaled_apply (ss : Vec Ideal S128x1 .f32) (Y : Vec Ideal S128x4096 .f32) (i : Fin 128) (q : Fin 4096) :
    k0_pay3 ss Y (ix2 i q) = Y (ix2 i q) * Ideal.div 1 (Ideal.sqrt (ss (ix2 i 0))) := by
  pointwise [k0_pay3]

/-- The tile, an old entry plus a gated candidate. -/
theorem tileOf_apply (n : grid0.Coords) (s : Vec Ideal S1x4096 .f32) (hb keys : Vec Ideal S128x4096 .f32) (U V W : Vec Ideal S256x4096 .f32)
    (a : Vec Ideal S1x1 .f32) (g : Vec Ideal S128x1 .f32) (i : Fin 128) (j : Fin 256) :
    tileOf n s hb keys U V W a g (ix2 i j) = colsOf n hb (ix2 i j) + g (ix2 i 0) * act (a (ix2 0 0))
      ((((∑ p, hb (ix2 i p) * U (ix2 j p)) + ∑ p, keys (ix2 i p) * V (ix2 j p)) + ∑ p, s (ix2 0 p) * W (ix2 j p)) + Ideal.ofBits .f32 0x3C23D70A#32) := by
  unfold tileOf candOf act
  generalize colsOf n hb = H
  pointwise [k0_pay1, k0_pay6, k0_pay7]

/-- A point adds its tile's squares to the running sum. -/
theorem ssOf_apply (n : grid0.Coords) (s : Vec Ideal S1x4096 .f32) (hb keys : Vec Ideal S128x4096 .f32) (U V W : Vec Ideal S256x4096 .f32)
    (a : Vec Ideal S1x1 .f32) (g ss : Vec Ideal S128x1 .f32) (i : Fin 128) :
    ssOf n s hb keys U V W a g ss (ix2 i 0) = ss (ix2 i 0)
      + ∑ j : Fin 256, tileOf n s hb keys U V W a g (ix2 i j) * tileOf n s hb keys U V W a g (ix2 i j) := by
  unfold ssOf tileOf
  generalize k0_pay6 (colsOf n hb) = H
  generalize candOf s hb keys U V W a g = C
  pointwise [k0_pay2, k0_pay1]

/-- The running sum starts at zero. -/
theorem start_apply (i : Fin 128) : (k0_pay5 (F := Ideal)) (ix2 i 0) = 0 := by
  pointwise [k0_pay5]

end Cert.KernelIdeal.Hand

end
-- ==== Proof.Body.lean ====
/-
  The three runs of the kernel's body at a grid point: the first point, a middle one, the last one. Each states what the
  body leaves in the output block and in the two scratch buffers.
-/
module

public import proofs.«01_k».proof.Proof.Cells

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x4096 .f32) (h1 : arg1.IsWhole) (arg2 : Memref sig .tc .vmem S128x4096 .f32) (h2 : arg2.IsWhole)
  (arg3 : Memref sig .tc .vmem S128x4096 .f32) (h3 : arg3.IsWhole) (arg4 : Memref sig .tc .vmem S256x4096 .f32) (h4 : arg4.IsWhole)
  (arg5 : Memref sig .tc .vmem S256x4096 .f32) (h5 : arg5.IsWhole) (arg6 : Memref sig .tc .vmem S256x4096 .f32) (h6 : arg6.IsWhole)
  (arg7 : Memref sig .tc .vmem S1x1 .f32) (h7 : arg7.IsWhole) (arg8 : Memref sig .tc .vmem S128x4096 .f32) (h8 : arg8.IsWhole)
  (arg9 : Memref sig .tc .vmem S128x1 .f32) (h9 : arg9.IsWhole) (arg10 : Memref sig .tc .vmem S128x1 .f32) (h10 : arg10.IsWhole)
  (s : Vec F S1x4096 .f32) (hb keys : Vec F S128x4096 .f32) (U V W : Vec F S256x4096 .f32) (a : Vec F S1x1 .f32)

/-- The seven input blocks a point runs on, each held whole at its contents. -/
abbrev ins : sProp 𝕄 :=
  iprop(owns (c : Thread nD τ) arg1 fullShare s ∗ owns (c : Thread nD τ) arg2 fullShare hb ∗ owns (c : Thread nD τ) arg3 fullShare keys
    ∗ owns (c : Thread nD τ) arg4 fullShare U ∗ owns (c : Thread nD τ) arg5 fullShare V ∗ owns (c : Thread nD τ) arg6 fullShare W
    ∗ owns (c : Thread nD τ) arg7 fullShare a)

/-- The three buffers a point writes: the output block, the gate, the sum of squares. -/
abbrev outs (Y : Vec F S128x4096 .f32) (g ss : Vec F S128x1 .f32) : sProp 𝕄 :=
  iprop(owns (c : Thread nD τ) arg8 fullShare Y ∗ owns (c : Thread nD τ) arg9 fullShare g ∗ owns (c : Thread nD τ) arg10 fullShare ss)

set_option maxHeartbeats 2000000 in
/-- The first point computes the gate and starts the sum of squares from zero. -/
theorem body_first (hc0 : isFirst i) (hc1 : ¬isLast i)
    (Y : Vec F S128x4096 .f32) (g ss : Vec F S128x1 .f32) (E : Set ℕ) (K : PUnit → sProp 𝕄) :
    iprop(ins c arg1 arg2 arg3 arg4 arg5 arg6 arg7 s hb keys U V W a ∗ outs c arg8 arg9 arg10 Y g ss
        ∗ (iprop(ins c arg1 arg2 arg3 arg4 arg5 arg6 arg7 s hb keys U V W a
            ∗ outs c arg8 arg9 arg10 (putOf i Y (tileOf i s hb keys U V W a (gateOf s hb keys))) (gateOf s hb keys)
                (ssOf i s hb keys U V W a (gateOf s hb keys) k0_pay5)) -∗ K ⟨⟩))
      ⊢ wp frame (wpE (defs₀ (F := F)) Variants.none c none) E
          (cc0_memory_cell_fused i arg1 h1 arg2 h2 arg3 h3 arg4 h4 arg5 h5 arg6 h6 arg7 h7 arg8 h8 arg9 h9 arg10 h10) K := by
  simp only [cc0_memory_cell_fused_eq_skeleton]; unfold cc0_memory_cell_fused_skel
  simp only [k0_part1_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨⟨%f7, %hf7, H7⟩, ⟨%f8, %hf8, H8⟩, ⟨%f9, %hf9, H9⟩⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := h9.eq_unread hf8; obtain rfl := h10.eq_unread hf9
  sl_exec (disch := first | sl_exact hc0 | sl_exact hc1)
  sl_step
  iapply Hk
  isplitl [H0 H1 H2 H3 H4 H5 H6]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr; · ipureintro; exact hf6
    iexact H6
  isplitl [H7]
  · iexists _; isplitr; swap; · iexact H7
    ipureintro
    delta body_first.sl.r body_first.sl.r_1 body_first.sl.H8_1 body_first.sl.H9_1 body_first.sl.v36 body_first.sl.v30
    simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]
  isplitl [H8]
  · iexists _; isplitr; swap; · iexact H8
    ipureintro
    delta body_first.sl.r body_first.sl.r_1 body_first.sl.H8_1 body_first.sl.H9_1 body_first.sl.v36 body_first.sl.v30
    simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]
  iexists _; isplitr; swap; · iexact H9
  ipureintro
  delta body_first.sl.r body_first.sl.r_1 body_first.sl.H8_1 body_first.sl.H9_1 body_first.sl.v36 body_first.sl.v30
  simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]

set_option maxHeartbeats 2000000 in
/-- A middle point stores its tile, keeps the gate, and adds the squares of its tile. -/
theorem body_mid (hc0 : ¬isFirst i) (hc1 : ¬isLast i)
    (Y : Vec F S128x4096 .f32) (g ss : Vec F S128x1 .f32) (E : Set ℕ) (K : PUnit → sProp 𝕄) :
    iprop(ins c arg1 arg2 arg3 arg4 arg5 arg6 arg7 s hb keys U V W a ∗ outs c arg8 arg9 arg10 Y g ss
        ∗ (iprop(ins c arg1 arg2 arg3 arg4 arg5 arg6 arg7 s hb keys U V W a
            ∗ outs c arg8 arg9 arg10 (putOf i Y (tileOf i s hb keys U V W a g)) g (ssOf i s hb keys U V W a g ss)) -∗ K ⟨⟩))
      ⊢ wp frame (wpE (defs₀ (F := F)) Variants.none c none) E
          (cc0_memory_cell_fused i arg1 h1 arg2 h2 arg3 h3 arg4 h4 arg5 h5 arg6 h6 arg7 h7 arg8 h8 arg9 h9 arg10 h10) K := by
  simp only [cc0_memory_cell_fused_eq_skeleton]; unfold cc0_memory_cell_fused_skel
  simp only [k0_part1_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨⟨%f7, %hf7, H7⟩, ⟨%f8, %hf8, H8⟩, ⟨%f9, %hf9, H9⟩⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := h9.eq_unread hf8; obtain rfl := h10.eq_unread hf9
  sl_exec (disch := first | sl_exact hc0 | sl_exact hc1)
  sl_step
  iapply Hk
  isplitl [H0 H1 H2 H3 H4 H5 H6]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr; · ipureintro; exact hf6
    iexact H6
  isplitl [H7]
  · iexists _; isplitr; swap; · iexact H7
    ipureintro
    delta body_mid.sl.r body_mid.sl.r_1
    simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]
  isplitl [H8]
  · iexists _; isplitr; swap; · iexact H8
    ipureintro; exact hf8
  iexists _; isplitr; swap; · iexact H9
  ipureintro
  delta body_mid.sl.r body_mid.sl.r_1
  simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]

set_option maxHeartbeats 2000000 in
/-- The last point stores its tile, completes the sum of squares, and scales the whole block by it. -/
theorem body_last (hc0 : ¬isFirst i) (hc1 : isLast i)
    (Y : Vec F S128x4096 .f32) (g ss : Vec F S128x1 .f32) (E : Set ℕ) (K : PUnit → sProp 𝕄) :
    iprop(ins c arg1 arg2 arg3 arg4 arg5 arg6 arg7 s hb keys U V W a ∗ outs c arg8 arg9 arg10 Y g ss
        ∗ (iprop(ins c arg1 arg2 arg3 arg4 arg5 arg6 arg7 s hb keys U V W a
            ∗ outs c arg8 arg9 arg10 (k0_pay3 (ssOf i s hb keys U V W a g ss) (putOf i Y (tileOf i s hb keys U V W a g))) g
                (ssOf i s hb keys U V W a g ss)) -∗ K ⟨⟩))
      ⊢ wp frame (wpE (defs₀ (F := F)) Variants.none c none) E
          (cc0_memory_cell_fused i arg1 h1 arg2 h2 arg3 h3 arg4 h4 arg5 h5 arg6 h6 arg7 h7 arg8 h8 arg9 h9 arg10 h10) K := by
  simp only [cc0_memory_cell_fused_eq_skeleton]; unfold cc0_memory_cell_fused_skel
  simp only [k0_part1_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩,
    ⟨⟨%f7, %hf7, H7⟩, ⟨%f8, %hf8, H8⟩, ⟨%f9, %hf9, H9⟩⟩, Hk⟩
  obtain rfl := h1.eq_unread hf0; obtain rfl := h2.eq_unread hf1; obtain rfl := h3.eq_unread hf2; obtain rfl := h4.eq_unread hf3
  obtain rfl := h5.eq_unread hf4; obtain rfl := h6.eq_unread hf5; obtain rfl := h7.eq_unread hf6; obtain rfl := h8.eq_unread hf7
  obtain rfl := h9.eq_unread hf8; obtain rfl := h10.eq_unread hf9
  sl_exec (disch := first | sl_exact hc0 | sl_exact hc1)
  sl_step
  iapply Hk
  isplitl [H0 H1 H2 H3 H4 H5 H6]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr; · ipureintro; exact hf6
    iexact H6
  isplitl [H7]
  · iexists _; isplitr; swap; · iexact H7
    ipureintro
    delta body_last.sl.r body_last.sl.r_1 body_last.sl.H7_1 body_last.sl.H9_1 body_last.sl.v47 body_last.sl.v51
    simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]
  isplitl [H8]
  · iexists _; isplitr; swap; · iexact H8
    ipureintro; exact hf8
  iexists _; isplitr; swap; · iexact H9
  ipureintro
  delta body_last.sl.r body_last.sl.r_1 body_last.sl.H7_1 body_last.sl.H9_1 body_last.sl.v47 body_last.sl.v51
  simp only [load_S1x4096, load_S128x4096, load_S256x4096, load_S1x1, load_S128x1, store_S128x4096, reload_S128x4096, store_S128x1, reload_S128x1, store_cols, load_cols, load_cols', View.readAt_full, View.read_writes_full, View.readCov_full, hf0, hf1, hf2, hf3, hf4, hf5, hf6, hf7, hf8, hf9]

end Cert.KernelIdeal.Hand

end
-- ==== Proof.Steps.lean ====
/-
  What holds between the grid points: the gate and the running sum of squares in the two scratch buffers, and the tiles
  that the output block has received so far.
-/
module

public import proofs.«01_k».proof.Proof.Body
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-- The gate the first point computes. -/
def gate : Vec F S128x1 .f32 := gateOf (iblk m c 0 t0_0) (iblk m c 1 t0_0) (iblk m c 2 t0_0)

/-- The tile point `t` stores. -/
def tile (t : Fin cfg0.N) : Vec F S128x256 .f32 :=
  tileOf (grid0.coords t) (iblk m c 0 t) (iblk m c 1 t) (iblk m c 2 t) (iblk m c 3 t) (iblk m c 4 t) (iblk m c 5 t) (iblk m c 6 t) (gate m c)

/-- The sum of squares after point `t`, from the one before it. -/
def ssStep (t : Fin cfg0.N) (ss : Vec F S128x1 .f32) : Vec F S128x1 .f32 :=
  ssOf (grid0.coords t) (iblk m c 0 t) (iblk m c 1 t) (iblk m c 2 t) (iblk m c 3 t) (iblk m c 4 t) (iblk m c 5 t) (iblk m c 6 t) (gate m c) ss

/-- The sum of squares before point `n`. -/
def ssAt : ℕ → Vec F S128x1 .f32
  | 0 => k0_pay5
  | n + 1 => if h : n < cfg0.N then ssStep m c ⟨n, h⟩ (ssAt n) else ssAt n

theorem ssAt_succ (t : Fin cfg0.N) : ssAt m c (t.val + 1) = ssStep m c t (ssAt m c t.val) := dif_pos t.isLt

/-- The block `Y` holds the tiles of the points before `n`. -/
def Stored (n : ℕ) (Y : Vec F S128x4096 .f32) : Prop :=
  ∀ u : Fin cfg0.N, u.val < n → colsOf (grid0.coords u) Y = tile m c u

/-- A point's store adds its tile to the tiles stored before. -/
theorem Stored.put {t : Fin cfg0.N} {Y : Vec F S128x4096 .f32} (h : Stored m c t.val Y) :
    Stored m c (t.val + 1) (putOf (grid0.coords t) Y (tile m c t)) := by
  intro u hu
  by_cases e : u = t
  · subst e
    exact VecWindow.window_put_same Y (k0_off1 (grid0.coords u)) S128x256.size (k0_off1_inb _) (tile m c u)
  · have hlt : u.val < t.val := by
      have : u.val ≠ t.val := fun e' => e (Fin.ext e')
      omega
    refine Eq.trans ?_ (h u hlt)
    refine VecWindow.window_put_of_disjoint Y (k0_off1 (grid0.coords t)) S128x256.size (k0_off1 (grid0.coords u)) S128x256.size
      (k0_off1_inb _) (tile m c t) 1 (.inl ?_)
    have eu : k0_off1 (grid0.coords u) 1 = 256 * u.val := by
      rw [k0_off1_eq]; exact congrArg (256 * ·) (coord_val u)
    have et : k0_off1 (grid0.coords t) 1 = 256 * t.val := by
      rw [k0_off1_eq]; exact congrArg (256 * ·) (coord_val t)
    rw [eu, et]
    show 256 * u.val + 256 ≤ 256 * t.val
    omega

/-- What the output block holds after point `t`: the tiles up to `t`, scaled at the last point. -/
def Left (t : Fin cfg0.N) (X : Vec F S128x4096 .f32) : Prop :=
  if t.val = 15 then ∃ Y, Stored m c 16 Y ∧ X = k0_pay3 (ssAt m c 16) Y else Stored m c (t.val + 1) X

/-- The output window is the one held to a predicate. -/
def marked : Fin cfg0.W → Bool := fun w => w.val == 7

/-- The predicate of each window. -/
def Rl : (w : Fin cfg0.W) → Fin cfg0.N → ((cfg0.win w).block.Idx → Elt F (cfg0.win w).elt) → Prop := fun w t =>
  match w with
  | ⟨7, _⟩ => fun X => Left m c t X
  | _ => fun _ => True

/-- What holds before point `n`, beside the windows. -/
def inv : ℕ → sProp 𝕄
  | 0 => Pipeline.ΦA spec0 c
  | n + 1 => iprop(iprop(owns (c : Thread nD τ) gateM fullShare (gate m c) ∗ owns (c : Thread nD τ) ssM fullShare (ssAt m c (n + 1)))
      ∗ (∃ r, prngReg c r))

theorem inv_pos {n : ℕ} (h : n ≠ 0) : inv m c n = iprop(iprop(owns (c : Thread nD τ) gateM fullShare (gate m c)
    ∗ owns (c : Thread nD τ) ssM fullShare (ssAt m c n)) ∗ (∃ r, prngReg c r)) := by
  cases n with
  | zero => exact absurd rfl h
  | succ n => rfl

/-- What the launch hands over, spelled with the two scratch buffers. -/
theorem inv_zero : (inv m c 0 : sProp 𝕄)
    = iprop(iprop((∃ d, owns (c : Thread nD τ) gateM fullShare d) ∗ (∃ d, owns (c : Thread nD τ) ssM fullShare d)) ∗ (∃ r, prngReg c r)) := by
  show Pipeline.ΦA spec0 c = _
  unfold Pipeline.ΦA; rw [scopedRest0_eq]; simp only [gateM, ssM, owns_whole]; try rfl

/-- The proof data: every input's buffer keeps its block. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := inv m c t.val
  q _ := fullShare
  owed _ := 0

theorem dat_A (w : Fin cfg0.W) : (dat m c).A w = V m c (Pipeline.arrRef spec0 w) := by dsimp only [dat]

theorem after_0 (t : Fin cfg0.N) : (dat m c).after 0 t = iblk m c 0 t := by dsimp only [dat]
theorem after_1 (t : Fin cfg0.N) : (dat m c).after 1 t = iblk m c 1 t := by dsimp only [dat]
theorem after_2 (t : Fin cfg0.N) : (dat m c).after 2 t = iblk m c 2 t := by dsimp only [dat]
theorem after_3 (t : Fin cfg0.N) : (dat m c).after 3 t = iblk m c 3 t := by dsimp only [dat]
theorem after_4 (t : Fin cfg0.N) : (dat m c).after 4 t = iblk m c 4 t := by dsimp only [dat]
theorem after_5 (t : Fin cfg0.N) : (dat m c).after 5 t = iblk m c 5 t := by dsimp only [dat]
theorem after_6 (t : Fin cfg0.N) : (dat m c).after 6 t = iblk m c 6 t := by dsimp only [dat]

theorem before_0 (t : Fin cfg0.N) (d) : (dat m c).before 0 t d = iblk m c 0 t := before0_0_of m (dat m c) (dat_A m c 0) (after_0 m c) t d
theorem before_1 (t : Fin cfg0.N) (d) : (dat m c).before 1 t d = iblk m c 1 t := before0_1_of m (dat m c) (dat_A m c 1) (after_1 m c) t d
theorem before_2 (t : Fin cfg0.N) (d) : (dat m c).before 2 t d = iblk m c 2 t := before0_2_of m (dat m c) (dat_A m c 2) (after_2 m c) t d
theorem before_3 (t : Fin cfg0.N) (d) : (dat m c).before 3 t d = iblk m c 3 t := before0_3_of m (dat m c) (dat_A m c 3) (after_3 m c) t d
theorem before_4 (t : Fin cfg0.N) (d) : (dat m c).before 4 t d = iblk m c 4 t := before0_4_of m (dat m c) (dat_A m c 4) (after_4 m c) t d
theorem before_5 (t : Fin cfg0.N) (d) : (dat m c).before 5 t d = iblk m c 5 t := before0_5_of m (dat m c) (dat_A m c 5) (after_5 m c) t d
theorem before_6 (t : Fin cfg0.N) (d) : (dat m c).before 6 t d = iblk m c 6 t := before0_6_of m (dat m c) (dat_A m c 6) (after_6 m c) t d

/-- The relational data of the run: the output window held to its predicate. -/
abbrev rdat : Pipeline.RDat τ (Elt F) Unit ℕ (UR sig nD τ) ℕ cfg0 c := (dat m c).toRRel marked (Rl m c)

/-- What a point finds in the output block are the tiles of the points before it. -/
theorem finds_stored (t : Fin cfg0.N) (Y : (cfg0.win 7).block.Idx → Elt F (cfg0.win 7).elt) (h : (rdat m c).Finds 7 t Y) :
    Stored m c t.val Y := by
  have hN : t.val < 16 := lt_of_lt_of_eq t.isLt (show cfg0.N = 16 from N_0)
  by_cases hz : t.val = 0
  · intro u hu; omega
  · have hp := ((rdat m c).finds_of_pos (w := 7) (t := t) rfl hz Y).mp h
    rcases hp with hfl | hl
    · have := (flush0_7 _).mp hfl
      dsimp only at this
      omega
    · have hr : Left m c ⟨t.val - 1, Nat.lt_of_le_of_lt (Nat.sub_le _ _) t.isLt⟩ Y := (dat m c).toRRel_leaves (fgt := marked) (w := 7) rfl hl
      unfold Left at hr
      rw [if_neg (by dsimp only; omega)] at hr
      have e : t.val - 1 + 1 = t.val := by omega
      dsimp only at hr
      rwa [e] at hr

end Cert.KernelIdeal.Hand

end
-- ==== Proof.Blocks.lean ====
module

public import proofs.«01_k».proof.Proof.Payload
public import proofs.«01_k».proof.Proof.Steps
public import Idealize.ShloMosaic.Lib.Claim
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

/-! The arguments as functions of plain coordinates. -/

/-- The encoded input. -/
def sA (p : Fin 4096) : EReal := m ((c.tc : Thread nD τ).loc main_arg0) (ix1 p)
/-- The memory blocks, one after the other in the flat argument. -/
def hA (i : Fin 128) (p : Fin 4096) : EReal := m ((c.tc : Thread nD τ).loc main_arg1) (ix1 ⟨i.val * 4096 + p.val, by omega⟩)
/-- The keys. -/
def kA (i : Fin 128) (p : Fin 4096) : EReal := m ((c.tc : Thread nD τ).loc main_arg2) (ix2 i p)
/-- The weight of the blocks. -/
def uA (q p : Fin 4096) : EReal := m ((c.tc : Thread nD τ).loc main_arg3) (ix2 q p)
/-- The weight of the keys. -/
def vA (q p : Fin 4096) : EReal := m ((c.tc : Thread nD τ).loc main_arg4) (ix2 q p)
/-- The weight of the input. -/
def wA (q p : Fin 4096) : EReal := m ((c.tc : Thread nD τ).loc main_arg5) (ix2 q p)
/-- The activation's slope. -/
def aA : EReal := m ((c.tc : Thread nD τ).loc main_arg6) (ix1 0)

/-- The lane that column `j` of point `t`'s tile is. -/
abbrev lane (t : Fin cfg0.N) (j : Fin 256) : Fin 4096 := ⟨256 * t.val + j.val, by have h : t.val < 16 := t.isLt; omega⟩

/-- The index maps: the rows of a weight move with the point, everything else stays. -/
theorem idx : ∀ t : Fin cfg0.N, win0_0.index t = ![0, 0] ∧ win0_1.index t = ![0, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, _)

/-- The region finds the input as one row, -/
theorem V_row : V m c main_v1 = shapeCast S1x4096 (m ((c.tc : Thread nD τ).loc main_arg0)) shapeCasts_S4096_S1x4096 := rfl

/-- the blocks as a matrix, -/
theorem V_blocks : V m c main_v0 = shapeCast S128x4096 (m ((c.tc : Thread nD τ).loc main_arg1)) shapeCasts_S524288_S128x4096 := rfl

/-- and the slope as a one by one matrix. -/
theorem V_slope : V m c main_v2 = shapeCast S1x1 (m ((c.tc : Thread nD τ).loc main_arg6)) shapeCasts_S1_S1x1 := rfl

/-- A window that covers its array whole reads the array at the same place. -/
theorem place0 (t : Fin cfg0.N) (p : Fin 4096) : (win0_0.blk t).view.emb (ix2 0 p) = ix2 0 p := by blk_ext [idx t]
theorem place1 (t : Fin cfg0.N) (i : Fin 128) (p : Fin 4096) : (win0_1.blk t).view.emb (ix2 i p) = ix2 i p := by blk_ext [idx t]
theorem place6 (t : Fin cfg0.N) : (win0_6.blk t).view.emb (ix2 0 0) = ix2 0 0 := by blk_ext [idx t]

theorem blk0 (t : Fin cfg0.N) (p : Fin 4096) : iblk m c 0 t (ix2 0 p) = sA m c p := by
  show V m c main_v1 ((win0_0.blk t).view.emb (ix2 0 p)) = _
  rw [V_row, place0]
  refine shapeCast_apply _ _ _ (ix1 p) ?_
  rw [Shape.rowMajor_val_one, Shape.rowMajor_val_two]
  show p.val = 0 * 4096 + p.val
  omega

theorem blk1 (t : Fin cfg0.N) (i : Fin 128) (p : Fin 4096) : iblk m c 1 t (ix2 i p) = hA m c i p := by
  show V m c main_v0 ((win0_1.blk t).view.emb (ix2 i p)) = _
  rw [V_blocks, place1]
  refine shapeCast_apply _ _ _ (ix1 ⟨i.val * 4096 + p.val, by omega⟩) ?_
  rw [Shape.rowMajor_val_one, Shape.rowMajor_val_two]
  rfl

theorem blk2 (t : Fin cfg0.N) (i : Fin 128) (p : Fin 4096) : iblk m c 2 t (ix2 i p) = kA m c i p := by
  unfold kA
  blk_point [iblk, V, idx t]
theorem blk3 (t : Fin cfg0.N) (j : Fin 256) (p : Fin 4096) : iblk m c 3 t (ix2 j p) = uA m c (lane t j) p := by
  unfold uA
  blk_point [iblk, V, idx t]
theorem blk4 (t : Fin cfg0.N) (j : Fin 256) (p : Fin 4096) : iblk m c 4 t (ix2 j p) = vA m c (lane t j) p := by
  unfold vA
  blk_point [iblk, V, idx t]
theorem blk5 (t : Fin cfg0.N) (j : Fin 256) (p : Fin 4096) : iblk m c 5 t (ix2 j p) = wA m c (lane t j) p := by
  unfold wA
  blk_point [iblk, V, idx t]
theorem blk6 (t : Fin cfg0.N) : iblk m c 6 t (ix2 0 0) = aA m c := by
  show V m c main_v2 ((win0_6.blk t).view.emb (ix2 0 0)) = _
  rw [V_slope, place6]
  refine shapeCast_apply _ _ _ (ix1 0) ?_
  rw [Shape.rowMajor_val_one, Shape.rowMajor_val_two]
  rfl

end Cert.KernelIdeal.Hand

end
-- ==== Proof.Values.lean ====
module

public import proofs.«01_k».proof.Proof.Blocks

@[expose] public section

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

/-- The blocks as the kernel updates them, under the gate from one sum. -/
abbrev updA (i : Fin 128) (q : Fin 4096) : EReal :=
  gated (sA m c) (hA m c) (kA m c) (uA m c) (vA m c) (wA m c) (aA m c) (gate1 (sA m c) (hA m c) (kA m c) i) i q
/-- The new blocks. -/
abbrev newA (i : Fin 128) (q : Fin 4096) : EReal := new (sA m c) (hA m c) (kA m c) (uA m c) (vA m c) (wA m c) (aA m c) i q

/-- What the statement assumes of the arguments: a real input, and no updated block of length zero. -/
structure Sound : Prop where
  s : ∀ p, ∃ r : ℝ, sA m c p = r
  len : ∀ i, len (sA m c) (hA m c) (kA m c) (uA m c) (vA m c) (wA m c) (aA m c) i ≠ 0

variable {m c}

/-- The gate the first point computes. -/
theorem gate_apply (i : Fin 128) : gate m c (ix2 i 0) = gate1 (sA m c) (hA m c) (kA m c) i := by
  unfold gate gate1
  rw [gateOf_apply]
  refine congrArg _ (Finset.sum_congr rfl fun p _ => ?_)
  rw [blk0, blk1, blk2]

/-- A point's columns of the blocks. -/
theorem colsOf_apply (t : Fin cfg0.N) (Y : Vec Ideal S128x4096 .f32) (i : Fin 128) (j : Fin 256) :
    colsOf (grid0.coords t) Y (ix2 i j) = Y (ix2 i (lane t j)) := by
  refine congrArg Y (funext fun b => Fin.ext ?_)
  rw [Rect.emb_apply]
  match b with
  | ⟨0, _⟩ =>
    show k0_off1 (grid0.coords t) 0 + 1 * i.val = i.val
    rw [k0_off1_eq]
    show 0 + 1 * i.val = i.val
    omega
  | ⟨1, _⟩ =>
    show k0_off1 (grid0.coords t) 1 + 1 * j.val = 256 * t.val + j.val
    rw [k0_off1_eq]
    show 256 * (grid0.coords t 0).val + 1 * j.val = 256 * t.val + j.val
    rw [coord_val]
    omega

/-- A point's tile holds the updated blocks at its lanes. -/
theorem tile_apply (t : Fin cfg0.N) (i : Fin 128) (j : Fin 256) : tile m c t (ix2 i j) = updA m c i (lane t j) := by
  unfold tile
  rw [tileOf_apply, colsOf_apply, gate_apply, blk1, blk6]
  refine congrArg (fun x => hA m c i (lane t j) + gate1 (sA m c) (hA m c) (kA m c) i * act (aA m c) x) ?_
  refine congrArg (· + Ideal.ofBits .f32 0x3C23D70A#32) (congrArg₂ (· + ·) (congrArg₂ (· + ·) ?_ ?_) ?_)
  · exact Finset.sum_congr rfl fun p _ => by rw [blk1, blk3]
  · exact Finset.sum_congr rfl fun p _ => by rw [blk2, blk4]
  · exact Finset.sum_congr rfl fun p _ => by rw [blk0, blk5, mul_comm]

/-- Before point `n` the running sum holds the squares of the lanes of the points before it. -/
theorem ssAt_apply (i : Fin 128) (n : ℕ) (hn : n ≤ 16) :
    ssAt m c n (ix2 i 0) = ∑ t : Fin n, ∑ j : Fin 256, updA m c i ⟨256 * t.val + j.val, by omega⟩ * updA m c i ⟨256 * t.val + j.val, by omega⟩ := by
  induction n with
  | zero => rw [Fin.sum_univ_zero]; exact start_apply i
  | succ n ih =>
    have h := ssAt_succ m c (⟨n, by have : cfg0.N = 16 := N_0; omega⟩ : Fin cfg0.N)
    rw [Fin.sum_univ_castSucc]
    refine (congrFun h _).trans ?_
    unfold ssStep
    rw [ssOf_apply]
    refine congrArg₂ (· + ·) (ih (by omega)) (Finset.sum_congr rfl fun j _ => ?_)
    exact congrArg₂ (· * ·) (tile_apply _ i j) (tile_apply _ i j)

/-- After the last point the block holds the new blocks. -/
theorem left_apply (hS : Sound m c) {t : Fin cfg0.N} (ht : t.val = 15) {X : Vec Ideal S128x4096 .f32} (h : Left m c t X) (i : Fin 128) (q : Fin 4096) :
    X (ix2 i q) = newA m c i q := by
  unfold Left at h
  rw [if_pos ht] at h
  obtain ⟨Y, hY, rfl⟩ := h
  have hy : Y (ix2 i q) = updA m c i q := by
    have h := congrFun (hY ⟨q.val / 256, by have : cfg0.N = 16 := N_0; omega⟩ (by show q.val / 256 < 16; omega)) (ix2 i ⟨q.val % 256, by omega⟩)
    rw [colsOf_apply, tile_apply] at h
    have e : lane (⟨q.val / 256, by have : cfg0.N = 16 := N_0; omega⟩ : Fin cfg0.N) ⟨q.val % 256, by omega⟩ = q :=
      Fin.ext (by show 256 * (q.val / 256) + q.val % 256 = q.val; omega)
    rwa [e] at h
  have hl : Ideal.sqrt (ssAt m c 16 (ix2 i 0)) = Ideal.sqrt (∑ q, updA m c i q * updA m c i q) := by
    rw [ssAt_apply i 16 le_rfl, lanes fun q => updA m c i q * updA m c i q]
  rw [scaled_apply, hl, hy]
  exact scaled_eq _ _ _ _ _ _ _ hS.s i (hS.len i) q

end Cert.KernelIdeal.Hand

end
-- ==== Proof.Assumed.lean ====
module

public import proofs.«01_k».proof.Proof.Reference
public import proofs.«01_k».proof.Proof.Values
public import proofs.«01_k».proof.Proof.Gen.Pre_rows_have_a_direction
public import proofs.«01_k».proof.Defs
public import Idealize.ShloMosaic.Lib.ReduceAll

@[expose] public section

set_option maxRecDepth 16384

noncomputable section

namespace Cert.KernelIdeal.Hand

open Idealize.ShloMosaic Idealize.ShloMosaic.TcCoe
open Cert.ReferenceIdeal.Hand (sOf hOf matOf at1 at2 v30_at)

/-- A conjunction of two bits that is 1 has both bits 1. -/
theorem bits_and : ∀ {a b : BitVec 1}, IntOp.andi a b = 1#1 → a = 1#1 ∧ b = 1#1 := by decide

/-- A number whose absolute value the predicate finds below infinity is real. -/
theorem real_of_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  refine real_of_abs_lt ?_
  by_contra hn
  simp [Ideal.cmp, hn] at h

/-- A number that the predicate finds unequal to zero is not zero. -/
theorem ne_of_une {x : EReal} (h : Ideal.cmp .une x (Ideal.ofBits .f32 0x00000000#32) = 1#1) : x ≠ 0 := by
  rw [Ideal.ofBits_zero_f32] at h
  rintro rfl
  simp [Ideal.cmp] at h

variable (x0 : (⟨Cert.ReferenceIdeal.S4096, .f32⟩ : BufTy).Contents (Elt Ideal)) (x1 : (⟨Cert.ReferenceIdeal.S524288, .f32⟩ : BufTy).Contents (Elt Ideal))
  (x2 : (⟨Cert.ReferenceIdeal.S128x4096, .f32⟩ : BufTy).Contents (Elt Ideal)) (x3 x4 x5 : (⟨Cert.ReferenceIdeal.S4096x4096, .f32⟩ : BufTy).Contents (Elt Ideal))
  (x6 : (⟨Cert.ReferenceIdeal.S1, .f32⟩ : BufTy).Contents (Elt Ideal))

/-- The predicate's norm of a matrix whose rows are known, at a row. -/
theorem norm_at (X : FVec Ideal Cert.Pre_rows_have_a_direction.S128x4096 .f32) (i : Fin 128) :
    Cert.Pre_rows_have_a_direction.fn_norm (F := Ideal) X (ix1 i) = Ideal.sqrt (∑ q : Fin 4096, X (ix2 i q) * X (ix2 i q)) := by
  unfold Cert.Pre_rows_have_a_direction.fn_norm
  pointwise

/-- The predicate in its two parts: the input is finite, no updated block has length zero. -/
theorem parts (h : Cert.Pre_rows_have_a_direction.fn (F := Ideal) x0 x1 x2 x3 x4 x5 x6 = fun _ => 1#1) :
    (∀ p, Ideal.cmp .olt (max (x0 p) (-(x0 p))) (Ideal.ofBits .f32 0x7F800000#32) = 1#1)
    ∧ ∀ i, Ideal.cmp .une (Cert.Pre_rows_have_a_direction.fn_norm (F := Ideal) (Cert.ReferenceIdeal.Read.val_main_v30 (F := Ideal) x0 x1 x2 x3 x4 x5 x6) i)
        (Ideal.ofBits .f32 0x00000000#32) = 1#1 := by
  have e := congrFun h (fun a => a.elim0)
  dsimp only [Cert.Pre_rows_have_a_direction.fn, Cert.Pre_rows_have_a_direction.fn_part1] at e
  have : Subsingleton Cert.Pre_rows_have_a_direction.S_.Idx := ⟨fun a b => funext fun x => x.elim0⟩
  obtain ⟨e1, e2⟩ := bits_and e
  exact ⟨fun p => Host.reduce_andi_all _ _ _ _ _ e1 p, fun i => Host.reduce_andi_all _ _ _ _ _ e2 i⟩

/-- What the statement assumes, of the kernel's arguments. -/
theorem sound {m : (ℓ : Loc nD τ sig) → Buf (Elt Ideal) ℓ} (h : Cert.Pre_KernelIdeal_rows_have_a_direction m) (c : Dev nD) : Sound m c := by
  obtain ⟨h1, h2⟩ := parts _ _ _ _ _ _ _ (h c)
  refine ⟨fun p => real_of_lt (h1 (ix1 p)), fun i => ?_⟩
  have h := ne_of_une (h2 (ix1 i))
  rw [norm_at] at h
  simp only [v30_at] at h
  exact h

end Cert.KernelIdeal.Hand

end
-- ==== Proof.Oblig.lean ====
/-
  The body's obligation at every grid point: from what holds before the point, the body runs to what holds after it.
-/
module

public import proofs.«01_k».proof.Proof.Steps

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-- The staging memref of window `w` at point `t`. -/
abbrev stg (w : Fin cfg0.W) (t : Fin cfg0.N) := (cfg0.win w).stage (cfg0.slots t w)

/-- The seven inputs' buffers at point `t`, each at its block. -/
abbrev insAt (t : Fin cfg0.N) : sProp 𝕄 :=
  ins c (stg 0 t) (stg 1 t) (stg 2 t) (stg 3 t) (stg 4 t) (stg 5 t) (stg 6 t)
    (iblk m c 0 t) (iblk m c 1 t) (iblk m c 2 t) (iblk m c 3 t) (iblk m c 4 t) (iblk m c 5 t) (iblk m c 6 t)

/-- One point, its buffers named: the invariant and the tiles so far go one point on. -/
theorem point (t : Fin cfg0.N) (K : PUnit → sProp 𝕄) :
    iprop(inv m c t.val ∗ insAt m c t ∗ (∃ Y, ⌜Stored m c t.val Y⌝ ∗ owns (c : Thread nD τ) (stg 7 t) fullShare Y)
        ∗ (iprop(inv m c (t.val + 1) ∗ insAt m c t ∗ (∃ X, ⌜Left m c t X⌝ ∗ owns (c : Thread nD τ) (stg 7 t) fullShare X)) -∗ K ⟨⟩))
      ⊢ wp frame (wpE (defs₀ (F := F)) Variants.none c none) Set.univ (bodyAt0 t) K := by
  have hN : t.val < 16 := lt_of_lt_of_eq t.isLt (show cfg0.N = 16 from N_0)
  unfold bodyAt0
  rw [inv_pos m c (Nat.succ_ne_zero t.val), ssAt_succ]
  by_cases hz : t.val = 0
  · have e0 : t = t0_0 := Fin.ext hz
    rw [hz, inv_zero]
    iintro ⟨⟨⟨⟨%d0, HS0⟩, ⟨%d1, HS1⟩⟩, Hg⟩, HI, ⟨%Y, %hY, H7⟩, Hk⟩
    iapply (body_first c (grid0.coords t) (stg 0 t) _ (stg 1 t) _ (stg 2 t) _ (stg 3 t) _ (stg 4 t) _ (stg 5 t) _ (stg 6 t) _ (stg 7 t) _ gateM _ ssM _
      (iblk m c 0 t) (iblk m c 1 t) (iblk m c 2 t) (iblk m c 3 t) (iblk m c 4 t) (iblk m c 5 t) (iblk m c 6 t)
      ((isFirst_iff t).mpr hz) (fun h => by have := (isLast_iff t).mp h; omega) Y d0 d1 Set.univ K)
    isplitl [HI]; · iexact HI
    isplitl [H7 HS0 HS1]
    · isplitl [H7]; · iexact H7
      isplitl [HS0]; · iexact HS0
      iexact HS1
    iintro ⟨HI, H7, HS0, HS1⟩
    iapply Hk
    have hg : gate m c = gateOf (iblk m c 0 t) (iblk m c 1 t) (iblk m c 2 t) := by rw [e0]; rfl
    isplitl [HS0 HS1 Hg]
    · isplitl [HS0 HS1]
      · isplitl [HS0]
        · rw [hg]; iexact HS0
        · unfold ssStep; rw [hg]; iexact HS1
      · iexact Hg
    isplitl [HI]; · iexact HI
    iexists _; isplitr; swap; · iexact H7
    ipureintro
    unfold Left
    rw [if_neg (by omega), hz, ← hg]
    have hp := Stored.put m c (t := t) (Y := Y) (by rw [hz]; exact hY)
    rw [hz] at hp
    exact hp
  · rw [inv_pos m c hz]
    by_cases hl : t.val = 15
    · iintro ⟨⟨⟨HS0, HS1⟩, Hg⟩, HI, ⟨%Y, %hY, H7⟩, Hk⟩
      iapply (body_last c (grid0.coords t) (stg 0 t) _ (stg 1 t) _ (stg 2 t) _ (stg 3 t) _ (stg 4 t) _ (stg 5 t) _ (stg 6 t) _ (stg 7 t) _ gateM _ ssM _
        (iblk m c 0 t) (iblk m c 1 t) (iblk m c 2 t) (iblk m c 3 t) (iblk m c 4 t) (iblk m c 5 t) (iblk m c 6 t)
        (fun h => hz ((isFirst_iff t).mp h)) ((isLast_iff t).mpr hl) Y (gate m c) (ssAt m c t.val) Set.univ K)
      isplitl [HI]; · iexact HI
      isplitl [H7 HS0 HS1]
      · isplitl [H7]; · iexact H7
        isplitl [HS0]; · iexact HS0
        iexact HS1
      iintro ⟨HI, H7, HS0, HS1⟩
      iapply Hk
      isplitl [HS0 HS1 Hg]
      · isplitl [HS0 HS1]
        · isplitl [HS0]; · iexact HS0
          iexact HS1
        · iexact Hg
      isplitl [HI]; · iexact HI
      iexists _; isplitr; swap; · iexact H7
      ipureintro
      unfold Left
      rw [if_pos hl]
      refine ⟨putOf (grid0.coords t) Y (tile m c t), ?_, ?_⟩
      · have hp := hY.put m c
        rw [hl] at hp
        exact hp
      · have hs := ssAt_succ m c t
        have e16 : t.val + 1 = 16 := by omega
        rw [e16] at hs
        rw [hs]; rfl
    · iintro ⟨⟨⟨HS0, HS1⟩, Hg⟩, HI, ⟨%Y, %hY, H7⟩, Hk⟩
      iapply (body_mid c (grid0.coords t) (stg 0 t) _ (stg 1 t) _ (stg 2 t) _ (stg 3 t) _ (stg 4 t) _ (stg 5 t) _ (stg 6 t) _ (stg 7 t) _ gateM _ ssM _
        (iblk m c 0 t) (iblk m c 1 t) (iblk m c 2 t) (iblk m c 3 t) (iblk m c 4 t) (iblk m c 5 t) (iblk m c 6 t)
        (fun h => hz ((isFirst_iff t).mp h)) (fun h => hl ((isLast_iff t).mp h)) Y (gate m c) (ssAt m c t.val) Set.univ K)
      isplitl [HI]; · iexact HI
      isplitl [H7 HS0 HS1]
      · isplitl [H7]; · iexact H7
        isplitl [HS0]; · iexact HS0
        iexact HS1
      iintro ⟨HI, H7, HS0, HS1⟩
      iapply Hk
      isplitl [HS0 HS1 Hg]
      · isplitl [HS0 HS1]
        · isplitl [HS0]; · iexact HS0
          iexact HS1
        · iexact Hg
      isplitl [HI]; · iexact HI
      iexists _; isplitr; swap; · iexact H7
      ipureintro
      unfold Left
      rw [if_neg hl]
      exact hY.put m c

/-- What the pipeline hands the body at point `t`, window by window. -/
def handed (t : Fin cfg0.N) : sProp 𝕄 :=
  iprop((dat m c).Φ t.castSucc ∗ (dat m c).owesAt () t.castSucc
    ∗ (∃ d, owns (c : Thread nD τ) (stg 0 t) fullShare ((dat m c).before 0 t d))
    ∗ (∃ d, owns (c : Thread nD τ) (stg 1 t) fullShare ((dat m c).before 1 t d))
    ∗ (∃ d, owns (c : Thread nD τ) (stg 2 t) fullShare ((dat m c).before 2 t d))
    ∗ (∃ d, owns (c : Thread nD τ) (stg 3 t) fullShare ((dat m c).before 3 t d))
    ∗ (∃ d, owns (c : Thread nD τ) (stg 4 t) fullShare ((dat m c).before 4 t d))
    ∗ (∃ d, owns (c : Thread nD τ) (stg 5 t) fullShare ((dat m c).before 5 t d))
    ∗ (∃ d, owns (c : Thread nD τ) (stg 6 t) fullShare ((dat m c).before 6 t d))
    ∗ (∃ Y, ⌜(rdat m c).Finds 7 t Y⌝ ∗ owns (c : Thread nD τ) (stg 7 t) fullShare Y))

/-- What it takes back. -/
def returned (t : Fin cfg0.N) : sProp 𝕄 :=
  iprop((dat m c).Φ t.succ ∗ (dat m c).owesAt () t.succ
    ∗ owns (c : Thread nD τ) (stg 0 t) fullShare ((dat m c).after 0 t)
    ∗ owns (c : Thread nD τ) (stg 1 t) fullShare ((dat m c).after 1 t)
    ∗ owns (c : Thread nD τ) (stg 2 t) fullShare ((dat m c).after 2 t)
    ∗ owns (c : Thread nD τ) (stg 3 t) fullShare ((dat m c).after 3 t)
    ∗ owns (c : Thread nD τ) (stg 4 t) fullShare ((dat m c).after 4 t)
    ∗ owns (c : Thread nD τ) (stg 5 t) fullShare ((dat m c).after 5 t)
    ∗ owns (c : Thread nD τ) (stg 6 t) fullShare ((dat m c).after 6 t)
    ∗ (∃ X, ⌜Rl m c 7 t X⌝ ∗ owns (c : Thread nD τ) (stg 7 t) fullShare X))

/-- The body runs from what it is handed to what is taken back. -/
theorem runs (t : Fin cfg0.N) :
    handed m c t ⊢ wp frame (wpE (defs₀ (F := F)) Variants.none c none) Set.univ (bodyAt0 t) (fun _ => returned m c t) := by
  unfold handed returned
  simp only [before_0, before_1, before_2, before_3, before_4, before_5, before_6, after_0, after_1, after_2, after_3, after_4, after_5, after_6]
  rw [show (dat m c).owesAt () t.succ = (dat m c).owesAt () t.castSucc from rfl,
    show (dat m c).Φ t.succ = inv m c (t.val + 1) from rfl, show (dat m c).Φ t.castSucc = inv m c t.val from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply (point m c t)
  isplitl [HΦ]; · iexact HΦ
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]
  · iexists Y; isplitr
    · ipureintro; exact finds_stored m c t Y hY
    · iexact H7
  iintro ⟨HΦ, ⟨H0, H1, H2, H3, H4, H5, H6⟩, ⟨%X, %hX, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X; isplitr
  · ipureintro; exact hX
  · iexact H7

/-- The body table's row at a point is the body on that point's buffers. -/
theorem row (t : Fin cfg0.N) : defs₀ (F := F) .tc cfg0.body (cfg0.bodyArgs t (cfg0.slots t)) = bodyAt0 t := by
  unfold defs₀; rw [Defs.onTc_tc]

/-- The body's obligation, with the output window held to its predicate. -/
theorem obligation : Pipeline.BodyObligationRel (dat (F := F) m c) (defs₀ (F := F)) Variants.none () Set.univ marked (Rl m c) := fun t => by
  rw [bigSep_W0, bigSep_W0, row]
  exact triple_restated (runs m c t) rfl .rfl fun _ => .rfl

/-- The same, of the relational data. -/
theorem obligationR : (rdat (F := F) m c).BodyObligation (defs₀ (F := F)) Variants.none () Set.univ := (obligation m c).toRRel

/-- What the launch hands over is the invariant before the first point. -/
theorem enters : Pipeline.ΦA spec0 c ⊢ (rdat m c).Φ 0 := .rfl

/-- After the last point the scratch buffers are given back at contents that nobody names. -/
theorem leaves : (rdat m c).Φ (Fin.last cfg0.N) ⊢ Pipeline.ΦA spec0 c := by
  show inv m c (Fin.last cfg0.N).val ⊢ inv m c 0
  have hN : (Fin.last cfg0.N).val ≠ 0 := by rw [Fin.val_last]; have : cfg0.N = 16 := N_0; omega
  rw [inv_pos m c hN, inv_zero]
  iintro ⟨⟨HS0, HS1⟩, Hg⟩
  isplitl [HS0 HS1]
  · isplitl [HS0]
    · iexists _; iexact HS0
    · iexists _; iexact HS1
  · iexact Hg

end Cert.KernelIdeal.Hand

end
-- ==== Proof.Launch.lean ====
module

public import proofs.«01_k».proof.Proof.Oblig
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's configuration, and that it is admissible. -/
abbrev pcs : Fin 1 → PCfg sig Λ₀ (Elt F) := fun q => (cfgs q).toPCfg (Val := Elt F)
abbrev adm : (p : Fin 1) → (pcs (F := F) p).Adm := fun q => (cfgs q).toPCfg_adm

/-- Contents of the eight arrays. -/
abbrev Arrays (c : Dev nD) : Type := (w : Fin cfg0.W) → Buf (Elt F) ((cfg0.win w).arr.view.loc (c.tc : Thread nD τ))

/-- Contents that the arrays may hold when the region is left. -/
def Ends (c : Dev nD) (A : Arrays (F := F) c) : Prop := ∀ w, (rdat m c).ArrAt w cfg0.N (A w)

/-- A buffer's contents after the host line that follows the region, the arrays being at `A`. -/
def ended (c : Dev nD) (A : Arrays (F := F) c) (b : Ref sig .tc) : Buf (Elt F) ((c.tc : Thread nD τ).loc b) :=
  StableHlo.after (List.flatten [hostOps1]) (withArrays spec0 c (V0 m c) A) (Proc.devRef .tc b)

/-- What the run ends with: each array at contents that it may hold, and every buffer that is no array as the host line after
    the region leaves it, the line having found the arrays at such contents. -/
def Ended (s : MemSt nD τ sig (Elt F)) (c : Dev nD) : Prop :=
  Ends m c (fun w => s.mem ((cfg0.win w).arr.view.loc (c.tc : Thread nD τ)))
  ∧ ∃ A, Ends m c A ∧ ∀ b ∈ restRefsP sig Prefetch.none spec0, s.mem ((c.tc : Thread nD τ).loc b) = ended m c A b

/-- The arrays at contents nobody names are the arrays at some contents. -/
theorem opened (c : Dev nD) : ((rdat m c).arraysAt cfg0.N : sProp 𝕄) ⊢ iprop(∃ A, ⌜Ends m c A⌝ ∗ (rdat m c).arrays A) := by
  unfold RDat.arraysAt
  iintro Ha
  ihave Hb := (BI.bigSep_exists_pi Finset.univ (fun w X => iprop(⌜(rdat m c).ArrAt w cfg0.N X⌝
    ∗ (cfg0.win w).arr.view.loc (c.tc : Thread nD τ) ↦[(cfg0.win w).arr.view.set]{(rdat m c).share w} X))) $$ Ha
  icases Hb with ⟨%A, Hb⟩
  ihave Hc := (BI.bigSep_pure_sep Finset.univ (fun w => (rdat m c).ArrAt w cfg0.N (A w))
    (fun w => (cfg0.win w).arr.view.loc (c.tc : Thread nD τ) ↦[(cfg0.win w).arr.view.set]{(rdat m c).share w} A w)) $$ Hb
  icases Hc with ⟨%h, Hc⟩
  iexists A
  isplitr
  · ipureintro; exact fun w => h w (Finset.mem_univ w)
  · unfold RDat.arrays; iexact Hc

/-- And back. -/
theorem closed (c : Dev nD) {A : Arrays (F := F) c} (h : Ends m c A) : ((rdat m c).arrays A : sProp 𝕄) ⊢ (rdat m c).arraysAt cfg0.N := by
  unfold RDat.arraysAt RDat.arrays
  refine BI.bigSep_mono fun w _ => ?_
  show ((cfg0.win w).arr.view.loc (c.tc : Thread nD τ) ↦[(cfg0.win w).arr.view.set]{(rdat m c).share w} A w : sProp 𝕄)
    ⊢ iprop(∃ X, ⌜(rdat m c).ArrAt w cfg0.N X⌝ ∗ (cfg0.win w).arr.view.loc (c.tc : Thread nD τ) ↦[(cfg0.win w).arr.view.set]{(rdat m c).share w} X)
  iintro H
  iexists (A w)
  isplitr
  · ipureintro; exact h w
  · iexact H

/-- Every window holds its array whole. -/
theorem whole_share (c : Dev nD) (w : Fin cfg0.W) : (rdat (F := F) m c).share w = fullShare := (dat m c).share_full (fun _ => rfl) w

/-- An input's share of its array. -/
theorem in_share (c : Dev nD) (w : Fin cfg0.W) (h : (spec0 w).isOut = false) : (rdat (F := F) m c).q w = shareOf spec0 w :=
  (rdat m c).q_eq_shareOf_of_share_full winFacts0.arr_inj (whole_share m c) w h

/-- The arrays as one piece are the buffers behind them. -/
theorem gathered (c : Dev nD) {A : Arrays (F := F) c} (h : Ends m c A) :
    ((rdat m c).arrays A : sProp 𝕄) = arrBufs spec0 c (fun b => withArrays spec0 c (V0 m c) A (Proc.devRef .tc b)) :=
  ((rdat m c).arrBufs_eq_arrays (launch0.toP (Val := Elt F)).to₀.sharedIn arr_whole0 (in_share m c) _ A fun w =>
    (withArrays_arr_shared spec0 c (V0 m c) A ((rdat m c).ArrAt_sharedIn (launch0.toP (Val := Elt F)).to₀.sharedIn (V0 m c) (dat_A m c) cfg0.N A h) w).symm).symm

set_option backward.isDefEq.respectTransparency.types false in
/-- The whole program ends as `Ended` says, and its semaphores at zero. -/
theorem run : θ_run defs (onTc (τ := τ) (main (F := F))) (s₀ m ρ) (fun r => (∀ c, Ended m r.2 c) ∧ r.2.sem = fun _ => 0) := by
  classical
  exact RDat.θ_run_region_pf_tail_quiescent pcs adm (RDat.familyOf pcs adm 0 (fun c => rdat m c)) () ((launch0.toP (Val := Elt F)).to₀.cellOf_inj adm) 0
    (launch0.toP (Val := Elt F)).to₀.win (OwnSemFacts.none spec0) (launch0.toP (Val := Elt F)).to₀.pre emb₁ defs₀ Variants.none m ρ main
    (fun _ => chain ([hostOps1].map StableHlo.seq)) (fun c => by rw [RDat.familyOf_self]; exact obligationR m c)
    block_pos0 arr_whole0 stage_whole0 (fun c t => by rw [RDat.familyOf_self]; rfl)
    (G := fun _ => iprop(emp)) (u₀ := initOf (cells (pin pcs adm) ((launch0.toP (Val := Elt F)).to₀.cellOf_inj adm)) (launchToks (pin pcs adm) ((launch0.toP (Val := Elt F)).to₀.cellOf_inj adm)))
    (hu₀ := by
      iintro Hu; imodintro
      isplitl [Hu]; · iapply (show (ownU _ : sProp 𝕄) ⊢ BI.own (emb₁ (initOf (cells (pin pcs adm) ((launch0.toP (Val := Elt F)).to₀.cellOf_inj adm)) (launchToks (pin pcs adm) ((launch0.toP (Val := Elt F)).to₀.cellOf_inj adm)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [RDat.familyOf_self]
      exact (rdat m c).arrays_split_shared (launch0.toP (Val := Elt F)).to₀.sharedIn arr_whole0 (in_share m c) (V m c) _ (dat_A m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ A, ⌜Ends m c A⌝ ∗ unscopedRestP (Ix := Unit) (Name := ℕ) (U := UR sig nD τ) (Lvl := ℕ) Prefetch.none spec0 c (ended m c A)))
    (hX := fun c => by
      iintro ⟨HU, -, -, Hp, -⟩; imodintro
      isplitl [Hp]; · iexists _; iexact Hp
      iexact HU)
    (hin := fun c => by
      rw [RDat.familyOf_self]
      refine (show _ ⊢ ΦA spec0 c from ?_).trans (enters m c)
      unfold ΦA
      iintro ⟨Hp, -, Hr⟩
      isplitl [Hr] <;> iassumption)
    (hout := fun c => by
      rw [RDat.familyOf_self]
      refine (leaves m c).trans ?_
      rw [ownSems0_none]; unfold ΦA
      iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (opened m c) $$ Ha
      icases Ha' with ⟨%A, %hA, Ha⟩
      iapply (tail_seqs_bufs_b pcs defs₀ Variants.none Prefetch.none spec0 c (V0 m c) A [hostOps1] sfx_sub sfx_fresh sfx_keeps Q')
      isplitl [Hk]
      · iintro ⟨Hb2, Ha2, Hu⟩
        iapply Hk
        isplitl [Hb2]; · iexact Hb2
        isplitl [Ha2]; · iapply (closed m c hA); iapply (Entails.of_eq (gathered m c hA).symm); iexact Ha2
        iexists A
        isplitr
        · ipureintro; exact hA
        · iexact Hu
      · isplitl [Hb]; · iexact Hb
        isplitl [Ha]; · iapply (Entails.of_eq (gathered m c hA)); iexact Ha
        iexact HZ)
    (QY := fun c s => ∃ A, Ends m c A ∧ ∀ b ∈ restRefsP sig Prefetch.none spec0, s.mem ((c.tc : Thread nD τ).loc b) = ended m c A b)
    (hY := fun c s' => by
      iintro ⟨-, HZ, HSI⟩
      icases HZ with ⟨%A, %hA, HZ⟩
      unfold unscopedRestP
      ihave HZ' := (pointsTo_read_all (restRefsP sig Prefetch.none spec0) (fun b => (c.tc : Thread nD τ).loc b) (ended m c A) s') $$ [HZ HSI]
      · isplitl [HZ] <;> iassumption
      icases HZ' with ⟨%hZ, HSI⟩
      imodintro
      isplitr
      · ipureintro; exact ⟨A, hA, hZ⟩
      · iexact HSI)
    (hQ := fun s h hz => ⟨fun c => ⟨fun w => by simpa only [RDat.familyOf_self] using (h c).1 w, (h c).2.2⟩, hz⟩)

end Cert.KernelIdeal.Hand

end
-- ==== Proof.Ends.lean ====
module

public import proofs.«01_k».proof.Proof.Values
public import proofs.«01_k».proof.Proof.Launch

@[expose] public section

set_option maxRecDepth 16384

noncomputable section

namespace Cert.KernelIdeal.Hand

open Idealize.ShloMosaic Idealize.ShloMosaic.TcCoe Idealize.ShloMosaic.Tactic
open Idealize.SL.Sem Idealize.ShloMosaic.Pipeline
open Cert.KernelIdeal.Gen

section Any

variable {F : FTy → Type} [FloatOps F]
variable (m : (ℓ : Loc nD τ sig) → Buf (Elt F) ℓ) (ρ : Dev nD → PrngReg)

/-- A buffer that is neither an array nor the flat result is left as the region found it. -/
theorem ended_of_ne (c : Dev nD) (A : Arrays (F := F) c) (b : Ref sig .tc) (h4 : b ≠ main_v4) (ha : ∀ w, arrRef spec0 w ≠ b) :
    ended m c A b = V m c b :=
  (StableHlo.reshape_result_ne main_v3 main_v4 _ _ _ _ (withArrays spec0 c (V0 m c) A) h4).trans (withArrays_of_ne spec0 c (V0 m c) A b ha)

/-- The flat result is the output array, its rows one after the other. -/
theorem ended_result (c : Dev nD) (A : Arrays (F := F) c) :
    ended m c A main_v4 = shapeCast S524288 (A 7 : Vec F S128x4096 .f32) shapeCasts_S128x4096_S524288 := by
  unfold ended
  rw [show (List.flatten [hostOps1] : List (HloOp τ sig (Elt F))) = [StableHlo.reshape main_v3 main_v4 rfl shapeCasts_S128x4096_S524288] from rfl,
    StableHlo.after_cons, StableHlo.after_nil]
  refine (StableHlo.reshape_result main_v3 main_v4 _ _ _ _ (withArrays spec0 c (V0 m c) A)).trans ?_
  exact congrArg (fun X : Vec F S128x4096 .f32 => shapeCast S524288 X shapeCasts_S128x4096_S524288)
    (withArrays_arr spec0 winFacts0.arr_inj c (V0 m c) A 7)

/-- An input's array ends as launched. -/
theorem input_kept (c : Dev nD) {A : Arrays (F := F) c} (h : Ends m c A) (w : Fin cfg0.W) (hw : (cfg0.win w).isOut = false) :
    A w = V m c (arrRef spec0 w) :=
  ((congrFun ((rdat m c).ArrAt_in w hw cfg0.N) (A w)).mp (h w)).trans (dat_A m c w)

/-- No argument is changed, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run m ρ)
  obtain ⟨hA, A, -, hB⟩ := h.1 c
  have rest : ∀ b : Ref sig .tc, b.isScoped = false → b ≠ main_v4 → (∀ w, arrRef spec0 w ≠ b) → r.2.mem ((c.tc : Thread nD τ).loc b) = V m c b :=
    fun b hs h4 ha => (hB b (by rw [restRefsP]; exact Finset.mem_sdiff.mpr ⟨mem_restRefs_of b hs ha, by simp [Prefetch.none]⟩)).trans (ended_of_ne m c A b h4 ha)
  exact ⟨(rest main_arg0 rfl (by decide) (by decide)).trans (V_main_arg0 m c), (rest main_arg1 rfl (by decide) (by decide)).trans (V_main_arg1 m c),
    (input_kept m c hA 2 rfl).trans (V_main_arg2 m c), (input_kept m c hA 3 rfl).trans (V_main_arg3 m c),
    (input_kept m c hA 4 rfl).trans (V_main_arg4 m c), (input_kept m c hA 5 rfl).trans (V_main_arg5 m c),
    (rest main_arg6 rfl (by decide) (by decide)).trans (V_main_arg6 m c)⟩

end Any

variable (m : (ℓ : Loc nD τ sig) → Buf (Elt Ideal) ℓ) (ρ : Dev nD → PrngReg)

/-- The last point. -/
abbrev final : Fin cfg0.N := ⟨15, by decide⟩

/-- The output is written back once, whole, after the last point. -/
theorem whole : (cfg0.win 7).WholeAt final := by decide +kernel

/-- A matrix laid out flat, read at an index. -/
theorem flat_apply (X : Vec Ideal S128x4096 .f32) (n : S524288.Idx) (h0 : (n 0).val / 4096 < 128) (h1 : (n 0).val % 4096 < 4096) :
    shapeCast S524288 X shapeCasts_S128x4096_S524288 n = X (ix2 ⟨(n 0).val / 4096, h0⟩ ⟨(n 0).val % 4096, h1⟩) := by
  refine shapeCast_apply X _ n _ ?_
  rw [Shape.rowMajor_val_one, Shape.rowMajor_val_two]
  show (n 0).val / 4096 * 4096 + (n 0).val % 4096 = (n 0).val
  omega

/-- The output array ends at the new blocks. -/
theorem output_apply {c : Dev nD} (hS : Sound m c) {A : Arrays (F := Ideal) c} (h : Ends m c A) (i : Fin 128) (q : Fin 4096) :
    (A 7 : Vec Ideal S128x4096 .f32) (ix2 i q) = newA m c i q := by
  obtain ⟨X, hX, hA⟩ := (h 7).emb_eq_of_wholeAt whole
  exact (hA (ix2 i q)).trans (left_apply hS (t := final) rfl ((dat m c).toRRel_leaves (fgt := marked) (w := 7) rfl hX) i q)

/-- The flat result: its element `n` is lane `n % 4096` of new block `n / 4096`. -/
def result (c : Dev nD) : Buf (Elt Ideal) ((c.tc : Thread nD τ).loc main_v4) :=
  fun n : S524288.Idx => newA m c ⟨(n 0).val / 4096, by have h : (n 0).val < 524288 := (n 0).isLt; omega⟩ ⟨(n 0).val % 4096, by omega⟩

/-- The kernel's result is that. -/
theorem value (hS : ∀ c, Sound m c) : θ_run defs (onTc (τ := τ) (main (F := Ideal))) ⟨m, fun _ => 0, ρ⟩
    (fun r => ∀ c : Dev nD, r.2.mem ((c.tc : Thread nD τ).loc main_v4) = result m c) := by
  refine (θ_run defs _ _).mono (fun r h c => ?_) (run m ρ)
  obtain ⟨-, A, hA, hB⟩ := h.1 c
  refine (hB main_v4 (by rw [restRefsP]; exact Finset.mem_sdiff.mpr ⟨mem_restRefs_of main_v4 rfl (by decide), by simp [Prefetch.none]⟩)).trans
    ((ended_result m c A).trans (funext fun n : S524288.Idx => ?_))
  have hn : (n 0).val < 524288 := (n 0).isLt
  exact (flat_apply _ n (by omega) (by omega)).trans (output_apply m (hS c) hA _ _)

end Cert.KernelIdeal.Hand

end
-- ==== Proof.Same.lean ====
/-
  The kernel and its ideal twin are printed from one module and no rule rewrote an operation, so they are the same program
  at every interpretation of the floats: what the modules above prove for any interpretation holds of the kernel's words.
-/
module

public import proofs.«01_k».proof.Proof.Ends
public import proofs.«01_k».proof.Proof.Gen.Kernel
public import proofs.«01_k».proof.Defs

@[expose] public section

set_option maxRecDepth 16384

noncomputable section

namespace Cert.Kernel.Hand

open Idealize.ShloMosaic Idealize.ShloMosaic.TcCoe Idealize.SL.Sem

attribute [local instance] Cert.Kernel.Gen.facts Cert.KernelIdeal.Gen.facts

section Any

variable {F : FTy → Type} [FloatOps F]

/-- One body at a grid point. -/
theorem same_body : @Cert.Kernel.cc0_memory_cell_fused F _ _ = @Cert.KernelIdeal.cc0_memory_cell_fused F _ _ := rfl

/-- One table of bodies. -/
theorem same_bodies : Cert.Kernel.defs₀ (F := F) = Cert.KernelIdeal.defs₀ := by
  unfold Cert.Kernel.defs₀ Cert.KernelIdeal.defs₀
  refine congrArg (Defs.onTc (nD := nD) (τ := τ) (sig := sig) (Val := Elt F) (Λ := Λ₀)) ?_
  funext l x
  match l, x with
  | 0, (t, s) => rw [same_body]; rfl

/-- One table with the pipeline's own. -/
theorem same_defs : Cert.Kernel.defs (F := F) = Cert.KernelIdeal.defs :=
  congrArg (Pipeline.defs pcfgs) same_bodies

/-- One program of the host. -/
theorem same_main : Cert.Kernel.main (F := F) = Cert.KernelIdeal.main := rfl

end Any

/-- The kernel as printed runs, leaves its seven arguments as they were, and every semaphore at zero. -/
theorem frame : Cert.quiescent_Kernel := by
  intro m g _
  rw [same_defs, same_main]
  exact Cert.KernelIdeal.Hand.frame (F := Bits) m g

end Cert.Kernel.Hand

end
-- ==== Proof.lean ====
/- The assembly of `Cert.Claim`: the frames, the sanctioned idealization, and the equality of the
   kernel's result with the reference's, from the modules under Proof/. -/
module

public import proofs.«01_k».proof.Defs
public import proofs.«01_k».proof.Proof.Assumed
public import proofs.«01_k».proof.Proof.Ends
public import proofs.«01_k».proof.Proof.Same
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_have_a_direction
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.Tactic

/-- The reference runs, leaves its seven arguments as they were, and every semaphore at zero. -/
theorem reference_frame : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run m g)

/-- From memories that agree on the arguments, the reference's result is the kernel's array. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) →
      Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.Value.res_main_v34 m' c = Cert.KernelIdeal.Hand.result m c := by
  rw [Cert.ReferenceIdeal.Read.val_main_v34_eq, h0, h1, h2, h3, h4, h5, h6]
  funext n
  exact Cert.ReferenceIdeal.Hand.v34_at _ _ _ _ _ _ _ n _ _

/-- Under the precondition, kernel and reference both run and end with the same result, as extended
    reals, and with their arguments as they were. -/
theorem same_result :
    Cert.algebraic_KernelIdeal_ReferenceIdeal_pre_rows_have_a_direction := by
  intro m g m' g' hpre hagree
  refine ⟨fun c => Cert.KernelIdeal.Hand.result m c, ?_, ?_⟩
  · exact (θ_run Cert.KernelIdeal.defs _ _).mono (fun r h c => ⟨h.1 c, h.2.1 c⟩)
      (θ_run_and (Cert.KernelIdeal.Hand.value m g (Cert.KernelIdeal.Hand.sound hpre))
        (Cert.KernelIdeal.Hand.frame m g))
  · refine (θ_run Cert.ReferenceIdeal.defs _ _).mono (fun r h c => ⟨(h c).1.trans ?_, (h c).2⟩)
      (Cert.ReferenceIdeal.Value.run m' g')
    obtain ⟨h0, h1, h2, h3, h4, h5, h6⟩ := hagree c
    exact reference_result m m' c h0 h1 h2 h3 h4 h5 h6

/-- All that is claimed of the kernel, its reading over the extended reals, and the reference. -/
theorem claim : Cert.Claim :=
  ⟨Cert.Kernel.Gen.facts, Cert.KernelIdeal.Gen.facts, Cert.ReferenceIdeal.Gen.facts,
    Cert.Pre_rows_have_a_direction.Gen.facts,
    Cert.Kernel.Hand.frame,
    fun m g _ => Cert.KernelIdeal.Hand.frame m g,
    fun m g _ => Cert.KernelIdeal.Hand.frame m g,
    reference_frame,
    fun m g _ => reference_frame m g trivial,
    trivial,
    same_result⟩

end Cert.Proof

end
